-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_logits_finite_labels_binary [hPre_logits_finite_labels_binary : Cert.Pre_logits_finite_labels_binary.Facts] (m : (ℓ : Loc Cert.KernelIdeal.nD Cert.KernelIdeal.τ Cert.KernelIdeal.sig) → Buf (Elt Ideal) ℓ) : Prop :=
  ∀ c : Dev Cert.KernelIdeal.nD,
    (Cert.Pre_logits_finite_labels_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_logits_finite_labels_binary.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_logits_finite_labels_binary [hPre_logits_finite_labels_binary : Cert.Pre_logits_finite_labels_binary.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_logits_finite_labels_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_logits_finite_labels_binary.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_logits_finite_labels_binary [hKernelIdeal : Cert.KernelIdeal.Facts] [hPre_logits_finite_labels_binary : Cert.Pre_logits_finite_labels_binary.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_logits_finite_labels_binary m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_logits_finite_labels_binary [hReferenceIdeal : Cert.ReferenceIdeal.Facts] [hPre_logits_finite_labels_binary : Cert.Pre_logits_finite_labels_binary.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_logits_finite_labels_binary m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_logits_finite_labels_binary [hKernelIdeal : Cert.KernelIdeal.Facts] [hReferenceIdeal : Cert.ReferenceIdeal.Facts] [hPre_logits_finite_labels_binary : Cert.Pre_logits_finite_labels_binary.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_logits_finite_labels_binary m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_logits_finite_labels_binary : Cert.Pre_logits_finite_labels_binary.Facts),
    quiescent_Kernel (hKernel := hKernel)
    ∧ quiescent_KernelIdeal (hKernelIdeal := hKernelIdeal)
    ∧ quiescent_KernelIdeal_pre_logits_finite_labels_binary (hKernelIdeal := hKernelIdeal) (hPre_logits_finite_labels_binary := hPre_logits_finite_labels_binary)
    ∧ quiescent_ReferenceIdeal (hReferenceIdeal := hReferenceIdeal)
    ∧ quiescent_ReferenceIdeal_pre_logits_finite_labels_binary (hReferenceIdeal := hReferenceIdeal) (hPre_logits_finite_labels_binary := hPre_logits_finite_labels_binary)
    ∧ preserves_Kernel_KernelIdeal
    ∧ algebraic_KernelIdeal_ReferenceIdeal_pre_logits_finite_labels_binary (hKernelIdeal := hKernelIdeal) (hReferenceIdeal := hReferenceIdeal) (hPre_logits_finite_labels_binary := hPre_logits_finite_labels_binary)
-- ==== Pre_logits_finite_labels_binary.lean ====
abbrev S16777216x2 : Shape := ⟨2, ![16777216, 2]⟩
abbrev S16777216 : Shape := ⟨1, ![16777216]⟩
abbrev S_ : Shape := ⟨0, ![]⟩

class Facts : Prop where
  bcast_S_S16777216x2 : S_.BroadcastsInDim S16777216x2 (![] : Fin 0 → Fin S16777216x2.rank)
  bcast_S_S16777216 : S_.BroadcastsInDim S16777216 (![] : Fin 0 → Fin S16777216.rank)

variable [Facts]

def fn {F : FTy → Type} [FloatOps F] (main_arg0 : FVec F S16777216x2 .f32) (main_arg1 : IVec S16777216 32) : IVec S16777216x2 1 × IVec S16777216 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 32 := constantI S_ 32 0#32
  let main_v3 : IVec S16777216 32 := broadcastInDim S16777216 ![] bcast_S_S16777216 main_c
  let main_v4 : IVec S16777216 1 := cmpi .eq main_arg1 main_v3
  let main_c_0 : IVec S_ 32 := constantI S_ 32 1#32
  let main_v5 : IVec S16777216 32 := broadcastInDim S16777216 ![] bcast_S_S16777216 main_c_0
  let main_v6 : IVec S16777216 1 := cmpi .eq main_arg1 main_v5
  let main_v7 : IVec S16777216 1 := ori main_v4 main_v6
  (main_v2, main_v7)
-- ==== Kernel.lean ====
abbrev S16777216x2 : Shape := ⟨2, ![16777216, 2]⟩
abbrev S16777216 : Shape := ⟨1, ![16777216]⟩
abbrev S131072x128x2 : Shape := ⟨3, ![131072, 128, 2]⟩
abbrev S131072x2x128 : Shape := ⟨3, ![131072, 2, 128]⟩
abbrev S262144x128 : Shape := ⟨2, ![262144, 128]⟩
abbrev S131072x128 : Shape := ⟨2, ![131072, 128]⟩
abbrev S8x128 : Shape := ⟨2, ![8, 128]⟩
abbrev S8192x128 : Shape := ⟨2, ![8192, 128]⟩
abbrev S2x8192x256 : Shape := ⟨3, ![2, 8192, 256]⟩
abbrev S2 : Shape := ⟨1, ![2]⟩
abbrev S1 : Shape := ⟨1, ![1]⟩
abbrev S_ : Shape := ⟨0, ![]⟩
abbrev S1x8192x256 : Shape := ⟨3, ![1, 8192, 256]⟩
abbrev S8192x256 : Shape := ⟨2, ![8192, 256]⟩
abbrev S131072x256 : Shape := ⟨2, ![131072, 256]⟩
abbrev S1024x8x128 : Shape := ⟨3, ![1024, 8, 128]⟩
abbrev S1x1 : Shape := ⟨2, ![1, 1]⟩
abbrev S1x8x128 : Shape := ⟨3, ![1, 8, 128]⟩
abbrev S1x1x1 : Shape := ⟨3, ![1, 1, 1]⟩

abbrev nBuf : Space → Nat
  | .hbm => 12
  | .vmem => 12
  | .smem => 0
  | _ => 0

abbrev bufTy : (tb : Table) → Fin (tcTables nBuf tb) → BufTy
  | .hbm, ⟨0, _⟩ => ⟨S16777216x2, .f32⟩
  | .hbm, ⟨1, _⟩ => ⟨S16777216, .i32⟩
  | .hbm, ⟨2, _⟩ => ⟨S131072x128x2, .f32⟩
  | .hbm, ⟨3, _⟩ => ⟨S131072x2x128, .f32⟩
  | .hbm, ⟨4, _⟩ => ⟨S262144x128, .f32⟩
  | .hbm, ⟨5, _⟩ => ⟨S131072x128, .i32⟩
  | .hbm, ⟨6, _⟩ => ⟨S8x128, .f32⟩
  | .hbm, ⟨7, _⟩ => ⟨S8x128, .f32⟩
  | .hbm, ⟨8, _⟩ => ⟨S8x128, .f32⟩
  | .hbm, ⟨9, _⟩ => ⟨S8x128, .f32⟩
  | .hbm, ⟨10, _⟩ => ⟨S1x1, .f32⟩
  | .hbm, ⟨11, _⟩ => ⟨S_, .f32⟩
  | .local _ .vmem, ⟨0, _⟩ => ⟨S8192x128, .i32⟩
  | .local _ .vmem, ⟨1, _⟩ => ⟨S8192x128, .i32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S2x8192x256, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S1x1, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev main_v4_3 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c1_i32 : BitVec 32 := 1#32
  let v3 : BitVec 32 := Scalar.addi arg0 c1_i32
  let c16_i32 : BitVec 32 := 16#32
  let v4 : BitVec 1 := Scalar.cmpi .slt v3 c16_i32
  let v5 : BitVec 32 := Scalar.extui v4
  let c0_i32_1 : BitVec 32 := 0#32
  let v6 : BitVec 1 := Scalar.cmpi .ne v5 c0_i32_1
  v6

def k0_off1 (i : grid0.Coords) : Fin 1 → Nat :=
  let arg0 : BitVec 32 := BitVec.ofNat 32 (i 0).val
  let c1_i32_25 : BitVec 32 := 1#32
  let v58 : BitVec 32 := Scalar.addi arg0 c1_i32_25
  let c2_i32_26 : BitVec 32 := 2#32
  let v59 : BitVec 32 := Scalar.remsi v58 c2_i32_26
  ![v59.toNat]
def k0_off2 (i : grid0.Coords) : Fin 3 → Nat :=
  let arg0 : BitVec 32 := BitVec.ofNat 32 (i 0).val
  let c1_i32_25 : BitVec 32 := 1#32
  let v58 : BitVec 32 := Scalar.addi arg0 c1_i32_25
  let c2_i32_26 : BitVec 32 := 2#32
  let v59 : BitVec 32 := Scalar.remsi v58 c2_i32_26
  let c0_i32_27 : BitVec 32 := 0#32
  let c0_i32_28 : BitVec 32 := 0#32
  ![v59.toNat, 0, 0]
def k0_off3 (i : grid0.Coords) : Fin 2 → Nat :=
  let arg0 : BitVec 32 := BitVec.ofNat 32 (i 0).val
  let c1_i32_24 : BitVec 32 := 1#32
  let v57 : BitVec 32 := Scalar.addi arg0 c1_i32_24
  let c8192_i32 : BitVec 32 := 8192#32
  let v60 : BitVec 32 := Scalar.muli v57 c8192_i32
  let c0_i32_29 : BitVec 32 := 0#32
  ![v60.toNat, 0]
def k0_off4 (i : grid0.Coords) : Fin 1 → Nat :=
  let arg0 : BitVec 32 := BitVec.ofNat 32 (i 0).val
  let c2_i32 : BitVec 32 := 2#32
  let v7 : BitVec 32 := Scalar.remsi arg0 c2_i32
  ![v7.toNat]
def k0_off5 (i : grid0.Coords) : Fin 3 → Nat :=
  let arg0 : BitVec 32 := BitVec.ofNat 32 (i 0).val
  let c2_i32 : BitVec 32 := 2#32
  let v7 : BitVec 32 := Scalar.remsi arg0 c2_i32
  let c0_i32_2 : BitVec 32 := 0#32
  let c0_i32_3 : BitVec 32 := 0#32
  ![v7.toNat, 0, 0]
def k0_off6 (i : grid0.Coords) : Fin 3 → Nat :=
  let arg0 : BitVec 32 := BitVec.ofNat 32 (i 0).val
  let c2_i32 : BitVec 32 := 2#32
  let v7 : BitVec 32 := Scalar.remsi arg0 c2_i32
  let v14 : Index := Scalar.indexCast v7
  let c0 : Index := 0#32
  let c0_6 : Index := 0#32
  ![v14.toNat, 0, 0]
def k0_cond3 (i : grid0.Coords) : BitVec 1 :=
  let arg0 : BitVec 32 := BitVec.ofNat 32 (i 0).val
  let c0_i32_20 : BitVec 32 := 0#32
  let v51 : BitVec 1 := Scalar.cmpi .eq arg0 c0_i32_20
  let v52 : BitVec 32 := Scalar.extui v51
  let c0_i32_21 : BitVec 32 := 0#32
  let v53 : BitVec 1 := Scalar.cmpi .ne v52 c0_i32_21
  v53

def k0_cond4 (i : grid0.Coords) : BitVec 1 :=
  let arg0 : BitVec 32 := BitVec.ofNat 32 (i 0).val
  let c0_i32_22 : BitVec 32 := 0#32
  let v54 : BitVec 1 := Scalar.cmpi .sgt arg0 c0_i32_22
  let v55 : BitVec 32 := Scalar.extui v54
  let c0_i32_23 : BitVec 32 := 0#32
  let v56 : BitVec 1 := Scalar.cmpi .ne v55 c0_i32_23
  v56

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := .none

abbrev stage1_0 : Fin 1 → Memref sig .tc .vmem S8x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
-- ==== ReferenceIdeal.lean ====
abbrev S16777216x2 : Shape := ⟨2, ![16777216, 2]⟩
abbrev S16777216 : Shape := ⟨1, ![16777216]⟩
abbrev S2 : Shape := ⟨1, ![2]⟩
abbrev S2x1 : Shape := ⟨2, ![2, 1]⟩
abbrev S1x2 : Shape := ⟨2, ![1, 2]⟩
abbrev S2x2 : Shape := ⟨2, ![2, 2]⟩
abbrev S_ : Shape := ⟨0, ![]⟩
abbrev S16777216x1 : Shape := ⟨2, ![16777216, 1]⟩
abbrev S16777216x1x1 : Shape := ⟨3, ![16777216, 1, 1]⟩
abbrev S1 : Shape := ⟨1, ![1]⟩
abbrev S1x1x1 : Shape := ⟨3, ![1, 1, 1]⟩
abbrev S4 : Shape := ⟨1, ![4]⟩

abbrev nBuf : Space → Nat
  | .hbm => 137
  | .vmem => 0
  | .smem => 0
  | _ => 0

abbrev hbmTy0_0 (i : Nat) : BufTy := match i % 128 with
  | 0 => ⟨S16777216x2, .f32⟩
  | 1 => ⟨S16777216, .i32⟩
  | 2 => ⟨S2, .i32⟩
  | 3 => ⟨S2x1, .i32⟩
  | 4 => ⟨S2, .i32⟩
  | 5 => ⟨S1x2, .i32⟩
  | 6 => ⟨S2x2, .i32⟩
  | 7 => ⟨S2x2, .i32⟩
  | 8 => ⟨S2x2, .i1⟩
  | 9 => ⟨S2x2, .i32⟩
  | 10 => ⟨S2x2, .i32⟩
  | 11 => ⟨S2x2, .i32⟩
  | 12 => ⟨S2x2, .f32⟩
  | 13 => ⟨S2x2, .f32⟩
  | 14 => ⟨S_, .f32⟩
  | 15 => ⟨S_, .f32⟩
  | 16 => ⟨S2x2, .f32⟩
  | 17 => ⟨S2x2, .f32⟩
  | 18 => ⟨S_, .f32⟩
  | 19 => ⟨S16777216, .f32⟩
  | 20 => ⟨S_, .f32⟩
  | 21 => ⟨S16777216, .f32⟩
  | 22 => ⟨S16777216, .f32⟩
  | 23 => ⟨S16777216x1, .f32⟩
  | 24 => ⟨S16777216x2, .f32⟩
  | 25 => ⟨S16777216x2, .f32⟩
  | 26 => ⟨S16777216x2, .f32⟩
  | 27 => ⟨S_, .f32⟩
  | 28 => ⟨S16777216, .f32⟩
  | 29 => ⟨S16777216x1, .f32⟩
  | 30 => ⟨S16777216x1, .f32⟩
  | 31 => ⟨S16777216x2, .f32⟩
  | 32 => ⟨S16777216x2, .f32⟩
  | 33 => ⟨S16777216x1, .i32⟩
  | 34 => ⟨S_, .i32⟩
  | 35 => ⟨S16777216x1, .i32⟩
  | 36 => ⟨S16777216x1, .i1⟩
  | 37 => ⟨S_, .i32⟩
  | 38 => ⟨S16777216x1, .i32⟩
  | 39 => ⟨S16777216x1, .i32⟩
  | 40 => ⟨S16777216x1, .i32⟩
  | 41 => ⟨S16777216x1x1, .i32⟩
  | 42 => ⟨S1, .i32⟩
  | 43 => ⟨S_, .i32⟩
  | 44 => ⟨S16777216x1x1, .i32⟩
  | 45 => ⟨S16777216x1x1, .i1⟩
  | 46 => ⟨S1x1x1, .i32⟩
  | 47 => ⟨S16777216x1x1, .i32⟩
  | 48 => ⟨S16777216x1x1, .i1⟩
  | 49 => ⟨S16777216x1x1, .i1⟩
  | 50 => ⟨S_, .i1⟩
  | 51 => ⟨S16777216x1, .i1⟩
  | 52 => ⟨S16777216x1, .f32⟩
  | 53 => ⟨S_, .f32⟩
  | 54 => ⟨S16777216x1, .f32⟩
  | 55 => ⟨S16777216x1, .f32⟩
  | 56 => ⟨S_, .f32⟩
  | 57 => ⟨S_, .f32⟩
  | 58 => ⟨S_, .f32⟩
  | 59 => ⟨S_, .f32⟩
  | 60 => ⟨S_, .f32⟩
  | 61 => ⟨S16777216x2, .i32⟩
  | 62 => ⟨S_, .f32⟩
  | 63 => ⟨S_, .i32⟩
  | 64 => ⟨S16777216, .f32⟩
  | 65 => ⟨S16777216, .i32⟩
  | 66 => ⟨S_, .i32⟩
  | 67 => ⟨S16777216, .i32⟩
  | 68 => ⟨S16777216, .i1⟩
  | 69 => ⟨S_, .i32⟩
  | 70 => ⟨S16777216, .i32⟩
  | 71 => ⟨S16777216, .i32⟩
  | 72 => ⟨S16777216, .i32⟩
  | 73 => ⟨S_, .i32⟩
  | 74 => ⟨S16777216, .i32⟩
  | 75 => ⟨S16777216, .i1⟩
  | 76 => ⟨S_, .i32⟩
  | 77 => ⟨S16777216, .i32⟩
  | 78 => ⟨S16777216, .i32⟩
  | 79 => ⟨S16777216, .i32⟩
  | 80 => ⟨S16777216x1, .i32⟩
  | 81 => ⟨S16777216x1, .i32⟩
  | 82 => ⟨S16777216x2, .i32⟩
  | 83 => ⟨S16777216, .f32⟩
  | 84 => ⟨S_, .i32⟩
  | 85 => ⟨S16777216, .i32⟩
  | 86 => ⟨S16777216, .i32⟩
  | 87 => ⟨S16777216, .i32⟩
  | 88 => ⟨S_, .f32⟩
  | 89 => ⟨S16777216, .f32⟩
  | 90 => ⟨S_, .f32⟩
  | 91 => ⟨S4, .f32⟩
  | 92 => ⟨S16777216x1, .i32⟩
  | 93 => ⟨S4, .f32⟩
  | 94 => ⟨S1, .f32⟩
  | 95 => ⟨S_, .f32⟩
  | 96 => ⟨S1, .f32⟩
  | 97 => ⟨S_, .f32⟩
  | 98 => ⟨S1, .f32⟩
  | 99 => ⟨S_, .f32⟩
  | 100 => ⟨S1, .f32⟩
  | 101 => ⟨S_, .f32⟩
  | 102 => ⟨S_, .f32⟩
  | 103 => ⟨S_, .i1⟩
  | 104 => ⟨S_, .f32⟩
  | 105 => ⟨S_, .i1⟩
  | 106 => ⟨S_, .i1⟩
  | 107 => ⟨S_, .f32⟩
  | 108 => ⟨S_, .i1⟩
  | 109 => ⟨S_, .i1⟩
  | 110 => ⟨S_, .f32⟩
  | 111 => ⟨S_, .i1⟩
  | 112 => ⟨S_, .i1⟩
  | 113 => ⟨S_, .f32⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S16777216x2, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | _ => ⟨S16777216x2, .f32⟩

abbrev hbmTy (i : Nat) : BufTy := match i / 128 with
  | 0 => hbmTy0_0 i
  | 1 => hbmTy0_1 i
  | _ => ⟨S16777216x2, .f32⟩

abbrev bufTy : (tb : Table) → Fin (tcTables nBuf tb) → BufTy
  | .hbm, ⟨i, _⟩ => hbmTy i
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v12 : Ref sig .tc := ⟨.hbm, 17, rfl⟩
abbrev main_call1_cst : Ref sig .tc := ⟨.hbm, 18, rfl⟩
abbrev main_call1_v0 : Ref sig .tc := ⟨.hbm, 19, rfl⟩
abbrev main_call1_cst_0 : Ref sig .tc := ⟨.hbm, 20, rfl⟩
abbrev main_call1_v1 : Ref sig .tc := ⟨.hbm, 21, rfl⟩
abbrev main_call1_v2 : Ref sig .tc := ⟨.hbm, 22, rfl⟩
abbrev main_call1_v3 : Ref sig .tc := ⟨.hbm, 23, rfl⟩
abbrev main_call1_v4 : Ref sig .tc := ⟨.hbm, 24, rfl⟩
abbrev main_call1_v5 : Ref sig .tc := ⟨.hbm, 25, rfl⟩
abbrev main_call1_v6 : Ref sig .tc := ⟨.hbm, 26, rfl⟩
abbrev main_call1_cst_1 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_v13 : Ref sig .tc := ⟨.hbm, 32, rfl⟩
abbrev main_v14 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_v5 : Ref sig .tc := ⟨.hbm, 41, rfl⟩
abbrev main_call2_c_1 : Ref sig .tc := ⟨.hbm, 42, rfl⟩
abbrev main_call2_c_2 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_v11 : Ref sig .tc := ⟨.hbm, 49, rfl⟩
abbrev main_call2_c_3 : Ref sig .tc := ⟨.hbm, 50, rfl⟩
abbrev main_call2_v12 : Ref sig .tc := ⟨.hbm, 51, rfl⟩
abbrev main_call2_v13 : Ref sig .tc := ⟨.hbm, 52, rfl⟩
abbrev main_call2_cst : Ref sig .tc := ⟨.hbm, 53, rfl⟩
abbrev main_call2_v14 : Ref sig .tc := ⟨.hbm, 54, rfl⟩
abbrev main_v15 : Ref sig .tc := ⟨.hbm, 55, rfl⟩
abbrev main_cst_0 : Ref sig .tc := ⟨.hbm, 56, rfl⟩
abbrev main_v16 : Ref sig .tc := ⟨.hbm, 57, rfl⟩
abbrev main_cst_1 : Ref sig .tc := ⟨.hbm, 58, rfl⟩
abbrev main_v17 : Ref sig .tc := ⟨.hbm, 59, rfl⟩
abbrev main_v18 : Ref sig .tc := ⟨.hbm, 60, rfl⟩
abbrev main_call3_v0 : Ref sig .tc := ⟨.hbm, 61, rfl⟩
abbrev main_call3_cst : Ref sig .tc := ⟨.hbm, 62, rfl⟩
abbrev main_call3_c : Ref sig .tc := ⟨.hbm, 63, rfl⟩
abbrev main_call3_v1_0 : Ref sig .tc := ⟨.hbm, 64, rfl⟩
abbrev main_v19 : Ref sig .tc := ⟨.hbm, 65, rfl⟩
abbrev main_c : Ref sig .tc := ⟨.hbm, 66, rfl⟩
abbrev main_v20 : Ref sig .tc := ⟨.hbm, 67, rfl⟩
abbrev main_v21 : Ref sig .tc := ⟨.hbm, 68, rfl⟩
abbrev main_c_2 : Ref sig .tc := ⟨.hbm, 69, rfl⟩
abbrev main_v22 : Ref sig .tc := ⟨.hbm, 70, rfl⟩
abbrev main_v23 : Ref sig .tc := ⟨.hbm, 71, rfl⟩
abbrev main_v24 : Ref sig .tc := ⟨.hbm, 72, rfl⟩
abbrev main_c_3 : Ref sig .tc := ⟨.hbm, 73, rfl⟩
abbrev main_v25 : Ref sig .tc := ⟨.hbm, 74, rfl⟩
abbrev main_v26 : Ref sig .tc := ⟨.hbm, 75, rfl⟩
abbrev main_c_4 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_c_5 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_cst_6 : Ref sig .tc := ⟨.hbm, 88, rfl⟩
abbrev main_v37 : Ref sig .tc := ⟨.hbm, 89, rfl⟩
abbrev main_cst_7 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_cst_8 : Ref sig .tc := ⟨.hbm, 102, rfl⟩
abbrev main_v49 : Ref sig .tc := ⟨.hbm, 103, rfl⟩
abbrev main_cst_9 : Ref sig .tc := ⟨.hbm, 104, rfl⟩
abbrev main_v50 : Ref sig .tc := ⟨.hbm, 105, rfl⟩
abbrev main_v51 : Ref sig .tc := ⟨.hbm, 106, rfl⟩
abbrev main_cst_10 : Ref sig .tc := ⟨.hbm, 107, rfl⟩
abbrev main_v52 : Ref sig .tc := ⟨.hbm, 108, rfl⟩
abbrev main_v53 : Ref sig .tc := ⟨.hbm, 109, rfl⟩
abbrev main_cst_11 : Ref sig .tc := ⟨.hbm, 110, rfl⟩
abbrev main_v54 : Ref sig .tc := ⟨.hbm, 111, rfl⟩
abbrev main_v55 : Ref sig .tc := ⟨.hbm, 112, rfl⟩
abbrev main_v56 : Ref sig .tc := ⟨.hbm, 113, rfl⟩
abbrev main_cst_12 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_cst_13 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_cst_14 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_cst_15 : Ref sig .tc := ⟨.hbm, 126, rfl⟩
abbrev main_v66 : Ref sig .tc := ⟨.hbm, 127, rfl⟩
abbrev main_cst_16 : Ref sig .tc := ⟨.hbm, 128, rfl⟩
abbrev main_call4_v0 : Ref sig .tc := ⟨.hbm, 129, rfl⟩
abbrev main_v67 : Ref sig .tc := ⟨.hbm, 130, rfl⟩
abbrev main_cst_17 : Ref sig .tc := ⟨.hbm, 131, rfl⟩
abbrev main_v68 : Ref sig .tc := ⟨.hbm, 132, rfl⟩
abbrev main_cst_18 : Ref sig .tc := ⟨.hbm, 133, rfl⟩
abbrev main_v69 : Ref sig .tc := ⟨.hbm, 134, rfl⟩
abbrev main_v70 : Ref sig .tc := ⟨.hbm, 135, rfl⟩
abbrev main_v71 : Ref sig .tc := ⟨.hbm, 136, rfl⟩

abbrev nD : Nat := 1
abbrev τ : Topo := Topo.v7x

variable {F : FTy → Type} [FloatOps F]
-- ==== Proof.Ring0.lean ====
/- The streamed operand of the first kernel: two scratch slots, two DMA cells, sixteen blocks. This module names the
   slots, the blocks and the cells, says in which order they change hands, and shows that the addresses the body
   computes at a grid point are these names. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Pf

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## When each branch of the body is taken -/

/-- The first `if` of the body: start the very first block. -/
abbrev isFirst (i : grid0.Coords) : Prop := (Scalar.cmpi .ne (Scalar.extui (Scalar.cmpi .eq (BitVec.ofNat 32 (i 0).val) 0#32)) 0#32) = 1#1
/-- The second: start the next block. -/
abbrev hasNext (i : grid0.Coords) : Prop := k0_cond2 i = 1#1
/-- The third: set the four sums to this point's contribution. -/
abbrev doesSet (i : grid0.Coords) : Prop := k0_cond3 i = 1#1
/-- The fourth: add this point's contribution to the four sums. -/
abbrev doesAdd (i : grid0.Coords) : Prop := k0_cond4 i = 1#1

theorem isFirst_iff : ∀ t : Fin grid0.N, isFirst (grid0.coords t) ↔ t.val = 0 := by decide +kernel
theorem hasNext_iff : ∀ t : Fin grid0.N, hasNext (grid0.coords t) ↔ t.val < 15 := by decide +kernel
theorem doesSet_iff : ∀ t : Fin grid0.N, doesSet (grid0.coords t) ↔ t.val = 0 := by decide +kernel
theorem doesAdd_iff : ∀ t : Fin grid0.N, doesAdd (grid0.coords t) ↔ 1 ≤ t.val := by decide +kernel

/-! ## The memrefs the body is given -/

/-- The staging buffers at point `t`: the labels' and the four sums'. -/
abbrev stg0 (t : Fin cfg0.N) : Memref sig .tc .vmem S8192x128 .i32 := win0_0.stage (cfg0.slots t 0)
abbrev stg0_whole (t : Fin cfg0.N) : (stg0 t).IsWhole := hstage0_0 ((cfg0.slots t 0).cast nbuf0_0)
abbrev stg1 (t : Fin cfg0.N) : Memref sig .tc .vmem S8x128 .f32 := win0_1.stage (cfg0.slots t 1)
abbrev stg1_whole (t : Fin cfg0.N) : (stg1 t).IsWhole := hstage0_1 ((cfg0.slots t 1).cast nbuf0_1)
abbrev stg2 (t : Fin cfg0.N) : Memref sig .tc .vmem S8x128 .f32 := win0_2.stage (cfg0.slots t 2)
abbrev stg2_whole (t : Fin cfg0.N) : (stg2 t).IsWhole := hstage0_2 ((cfg0.slots t 2).cast nbuf0_2)
abbrev stg3 (t : Fin cfg0.N) : Memref sig .tc .vmem S8x128 .f32 := win0_3.stage (cfg0.slots t 3)
abbrev stg3_whole (t : Fin cfg0.N) : (stg3 t).IsWhole := hstage0_3 ((cfg0.slots t 3).cast nbuf0_3)
abbrev stg4 (t : Fin cfg0.N) : Memref sig .tc .vmem S8x128 .f32 := win0_4.stage (cfg0.slots t 4)
abbrev stg4_whole (t : Fin cfg0.N) : (stg4 t).IsWhole := hstage0_4 ((cfg0.slots t 4).cast nbuf0_4)
/-- The scratch of two slots, whole. -/
abbrev scrM : Memref sig .tc .vmem S2x8192x256 .f32 := Memref.whole cc0_scratch0
/-- The logits in HBM, whole, and the same buffer seen as rows of 256. -/
abbrev logM : Memref sig .tc .hbm S262144x128 .f32 := Memref.whole main_v2
abbrev rowM : Memref sig .tc .hbm S131072x256 .f32 :=
  logM.reshape S131072x256 reshapes_S262144x128_S131072x256.1 reshapes_S262144x128_S131072x256.2 (Memref.isWhole_whole main_v2).contiguous

/-- The contents of a memref's buffer on core `c`, and that buffer held whole. -/
abbrev BufOf (c : Dev nD) {sp : Space} {S : Shape} {e : EltTy} (M : Memref sig .tc sp S e) : Type := Buf (Elt F) (M.view.loc (c : Thread nD τ))
abbrev heldAt (c : Dev nD) {sp : Space} {S : Shape} {e : EltTy} (M : Memref sig .tc sp S e) (f : BufOf (F := F) c M) : sProp 𝕄 :=
  M.view.loc (c : Thread nD τ) ↦{fullShare} f

/-- The body's two DMA semaphores. -/
abbrev ringSem : Fin 2 → SemLoc sig := fun j => (![SemLoc.dma 6, SemLoc.dma 7] : Fin 2 → SemLoc sig) j
theorem ringSem_own : Pipeline.OwnSemFacts spec0 ringSem := by decide
theorem ringSems_eq (c : Dev nD) :
    (Pipeline.ownSems0 (Ix := Unit) (Name := ℕ) (U := Pipeline.UD sig nD τ) (Lvl := ℕ) (Val := Elt F) (τ := τ) ringSem c : sProp 𝕄)
      = iprop(semVal ((c : Thread nD τ), SemLoc.dma 6) 0 ∗ semVal ((c : Thread nD τ), SemLoc.dma 7) 0) := by
  rw [Pipeline.ownSems0_eq_of_list c ringSem [0, 1] (by decide) (by decide)]; rfl

/-! ## Slots, blocks, cells -/

instance : NeZero grid0.N := ⟨by rw [N_0]; decide⟩
theorem slot_fits (s : Fin 2) : ∀ a, (![s.val, 0, 0] : Fin 3 → Nat) a + S1x8192x256.size a ≤ S2x8192x256.size a := by
  have := s.isLt; intro a; fin_cases a <;> simp <;> omega
theorem block_fits (b : Fin 16) : ∀ a, (![8192 * b.val, 0] : Fin 2 → Nat) a + S8192x256.size a ≤ S131072x256.size a := by
  have := b.isLt; intro a; fin_cases a <;> simp <;> omega
theorem cell_fits (s : Fin 2) : ∀ a, (![s.val] : Fin 1 → Nat) a + S1.size a ≤ S2.size a := by
  have := s.isLt; intro a; fin_cases a <;> simp <;> omega
/-- Slot `s` of the scratch. -/
def slotM (s : Fin 2) : Memref sig .tc .vmem S8192x256 .f32 :=
  (scrM.slice (Rect.unit (s := S2x8192x256) ![s.val, 0, 0] S1x8192x256.size (slot_fits s)) (fun _ => rfl)).squeeze S8192x256 squeezes_S1x8192x256_S8192x256
/-- Block `b` of the logits: 8192 rows of 256. -/
def blockM (b : Fin 16) : Memref sig .tc .hbm S8192x256 .f32 :=
  rowM.slice (Rect.unit (s := S131072x256) ![8192 * b.val, 0] S8192x256.size (block_fits b)) (fun _ => rfl)
/-- Cell `s` of the semaphore array, and where it is. -/
def cellM (s : Fin 2) : DmaSems sig S_ := (cc0_scratch1.slice (Rect.unit (s := S2) ![s.val] S1.size (cell_fits s))).squeeze S_ squeezes_S1_S_
abbrev cellL (s : Fin 2) : SemLoc sig := SemLoc.dma (cellM s).sem
theorem cellL_0 : cellL 0 = SemLoc.dma 6 := by decide
theorem cellL_1 : cellL 1 = SemLoc.dma 7 := by decide

section Ring
variable (c : Dev nD) (W : BufOf (F := F) c logM)
/-- Each slot borrows the logits through its own half of the full share, so that two transfers may be in flight. -/
abbrev halfOf (s : Fin 2) : PosShare TreeShare := if s.val = 0 then fullShare.left else fullShare.right
abbrev slotPt (s : Fin 2) (f : BufOf (F := F) c (slotM s)) : sProp 𝕄 := (slotM s).view.loc (c : Thread nD τ) ↦[(slotM s).view.set]{fullShare} f
abbrev cellPt (s : Fin 2) : sProp 𝕄 := semVal ((c : Thread nD τ), cellL s) 0
/-- What the transfer of block `b` into slot `s` borrows; what stays of that half; the half whole. -/
abbrev blockPt (s : Fin 2) (b : Fin 16) : sProp 𝕄 := (blockM b).view.loc (c : Thread nD τ) ↦[(blockM b).view.set]{halfOf s} W
def restPt (s : Fin 2) (b : Fin 16) : sProp 𝕄 := ((c : Thread nD τ).loc main_v2) ↦[Finset.univ \ (blockM b).view.set]{halfOf s} W
abbrev halfPt (s : Fin 2) : sProp 𝕄 := ((c : Thread nD τ).loc main_v2) ↦[Finset.univ]{halfOf s} W
/-- The scratch once block `b` has landed in slot `s`. -/
abbrev landed (s : Fin 2) (b : Fin 16) (f : BufOf (F := F) c (slotM s)) : BufOf (F := F) c (slotM s) :=
  (slotM s).view.writes (Elt F) f [⟨Rect.whole S8192x256, ReadAs.same.apply ((blockM b).view.read (Elt F) W)⟩]
/-- Block `b` on its way into slot `s`. -/
abbrev flightPt (s : Fin 2) (b : Fin 16) (f : BufOf (F := F) c (slotM s)) : sProp 𝕄 :=
  Transfers.Flight countersEmb (c : Thread nD τ) (cellL s) default ((slotM s).view.amount (cellL s))
    iprop(slotPt c s (landed c W s b f) ∗ blockPt c W s b)
abbrev slotRes (s : Fin 2) (f : BufOf (F := F) c (slotM s)) : sProp 𝕄 := iprop(slotPt c s f ∗ halfPt c W s)
abbrev flightRes (s : Fin 2) (b : Fin 16) (f : BufOf (F := F) c (slotM s)) : sProp 𝕄 := iprop(flightPt c W s b f ∗ restPt c W s b)
abbrev noHome (b : Fin 16) : sProp 𝕄 := iprop(emp)
/-- The ring before point `k`: all free before the first; afterwards block `k` is on its way and block `k - 1` is
    still in the other slot. -/
def ringAt (k : ℕ) : sProp 𝕄 :=
  if k = 0 then Ring.At₀ (cellPt c) (slotRes c W) noHome
  else Ring.AtK 1 (cellPt c) (slotRes c W) noHome (flightRes c W) (landed c W) k
omit [FloatOps F] in
theorem cellPt_0 : cellPt (F := F) c 0 = semVal ((c : Thread nD τ), SemLoc.dma 6) 0 := congrArg (fun x => (semVal ((c : Thread nD τ), x) 0 : sProp 𝕄)) cellL_0
omit [FloatOps F] in
theorem cellPt_1 : cellPt (F := F) c 1 = semVal ((c : Thread nD τ), SemLoc.dma 7) 0 := congrArg (fun x => (semVal ((c : Thread nD τ), x) 0 : sProp 𝕄)) cellL_1
end Ring

/-! ## The two slots are the scratch -/

abbrev slotSet (s : Fin 2) : Finset S2x8192x256.Idx := (Rect.unit (s := S2x8192x256) ![s.val, 0, 0] S1x8192x256.size (slot_fits s)).set
theorem slotSet_eq (s : Fin 2) : (slotM s).view.set = slotSet s := by
  simp only [slotM, Memref.view_squeeze, View.set_reshape]; exact View.set_slice_whole _ _
theorem slots_disjoint (s s' : Fin 2) (h : s ≠ s') : Disjoint (slotSet s) (slotSet s') :=
  Ring.lead_disjoint (s := S2x8192x256) (0 : Fin 3) 1 (fun s : Fin 2 => (![s.val, 0, 0] : Fin 3 → Nat)) S1x8192x256.size slot_fits (fun s => by simp) rfl s s' h
theorem slots_cover : Finset.univ.biUnion slotSet = Finset.univ :=
  Ring.lead_cover (s := S2x8192x256) (0 : Fin 3) 1 (fun s : Fin 2 => (![s.val, 0, 0] : Fin 3 → Nat)) S1x8192x256.size slot_fits (fun s => by simp)
    (fun s a ha => by fin_cases a <;> first | exact absurd rfl ha | rfl) rfl (fun a ha => by fin_cases a <;> first | exact absurd rfl ha | rfl) rfl

section Ends
variable (c : Dev nD) (W : BufOf (F := F) c logM)
theorem slotPt_eq (s : Fin 2) (f) : slotPt (F := F) c s f = (((c : Thread nD τ).loc cc0_scratch0) ↦[slotSet s]{fullShare} f : sProp 𝕄) := by
  unfold slotPt; rw [slotSet_eq]; rfl
/-- A half of the logits is a block of it and the rest. -/
theorem half_split (s : Fin 2) (b : Fin 16) : halfPt (F := F) c W s ⊣⊢ iprop(blockPt c W s b ∗ restPt c W s b) := by
  unfold restPt; exact pointsTo_split_subset (Finset.subset_univ _)
/-- The logits held whole are the two halves. -/
theorem halves : (heldAt c logM W : sProp 𝕄) ⊣⊢ iprop(halfPt c W 0 ∗ halfPt c W 1) :=
  pointsTo_share (PosShare.mem_left_op_right fullShare)
set_option maxHeartbeats 1000000 in
/-- The scratch falls into its two slots, and they make it up again. -/
theorem slots_split : iprop(∃ d, owns (c : Thread nD τ) scrM fullShare d) ⊢ (iprop((∃ f, slotPt (F := F) c 0 f) ∗ ∃ f, slotPt (F := F) c 1 f) : sProp 𝕄) := by
  simp only [scrM, owns_whole]
  exact Ring.slots2_split (U := Pipeline.UD sig nD τ) (ℓ := (c : Thread nD τ).loc cc0_scratch0) (q := fullShare) slotSet slots_disjoint slots_cover
    (slotPt c 0) (slotPt c 1) (slotPt_eq c 0) (slotPt_eq c 1)
set_option maxHeartbeats 1000000 in
theorem slots_join : (iprop((∃ f, slotPt (F := F) c 0 f) ∗ ∃ f, slotPt (F := F) c 1 f) : sProp 𝕄) ⊢ iprop(∃ d, owns (c : Thread nD τ) scrM fullShare d) := by
  simp only [scrM, owns_whole]
  exact Ring.slots2_join (U := Pipeline.UD sig nD τ) (ℓ := (c : Thread nD τ).loc cc0_scratch0) (q := fullShare) slotSet slots_disjoint slots_cover
    (slotPt c 0) (slotPt c 1) (slotPt_eq c 0) (slotPt_eq c 1)

/-- What the launch holds makes up the ring before its first step. -/
theorem ring_enter :
    iprop((∃ d, owns (c : Thread nD τ) scrM fullShare d) ∗ (semVal ((c : Thread nD τ), SemLoc.dma 6) 0 ∗ semVal ((c : Thread nD τ), SemLoc.dma 7) 0) ∗ heldAt c logM W)
      ⊢ ringAt c W 0 := by
  unfold ringAt; rw [if_pos rfl]; unfold Ring.At₀
  rw [Ring.bigSep_fin2]
  simp only [Ring.free, cellPt_0, cellPt_1]
  iintro ⟨HS, ⟨Ha, Hb⟩, HW⟩
  iapply Ring.with_homes₀
  ihave HS' := (slots_split (F := F) c) $$ HS
  icases HS' with ⟨⟨%d0, HS0⟩, ⟨%d1, HS1⟩⟩
  ihave HW' := (halves (F := F) c W).1 $$ HW
  icases HW' with ⟨HW0, HW1⟩
  isplitl [Ha HS0 HW0]
  · isplitl [Ha]; · iexact Ha
    iexists d0; isplitl [HS0]; · iexact HS0
    iexact HW0
  · isplitl [Hb]; · iexact Hb
    iexists d1; isplitl [HS1]; · iexact HS1
    iexact HW1
/-- After the last step the ring gives it all back. -/
theorem ring_leave :
    ringAt c W 16
      ⊢ iprop((∃ d, owns (c : Thread nD τ) scrM fullShare d) ∗ (semVal ((c : Thread nD τ), SemLoc.dma 6) 0 ∗ semVal ((c : Thread nD τ), SemLoc.dma 7) 0) ∗ heldAt c logM W) := by
  unfold ringAt; rw [if_neg (by decide)]
  iintro H
  ihave H' := (Ring.free2_of_AtK_last _ _ _ _ _) $$ H
  simp only [Ring.free, cellPt_0, cellPt_1]
  icases H' with ⟨-, ⟨Ha, ⟨%f0, HS0, HW0⟩⟩, ⟨Hb, ⟨%f1, HS1, HW1⟩⟩⟩
  isplitl [HS0 HS1]
  · iapply (slots_join (F := F) c); isplitl [HS0]; · iexists f0; iexact HS0
    iexists f1; iexact HS1
  isplitl [Ha Hb]
  · isplitl [Ha]; · iexact Ha
    iexact Hb
  · iapply (halves (F := F) c W).2; isplitl [HW0]; · iexact HW0
    iexact HW1
end Ends

/-! ## The body's addresses are these names -/

section Names
omit [FloatOps F]
theorem step_first : ∀ t : Fin grid0.N, isFirst (grid0.coords t) → t.val = 0 := by decide +kernel
theorem step_mid : ∀ t : Fin grid0.N, hasNext (grid0.coords t) → doesAdd (grid0.coords t) → 1 ≤ t.val ∧ t.val + 1 < 16 := by decide +kernel
theorem step_last : ∀ t : Fin grid0.N, ¬hasNext (grid0.coords t) → 1 ≤ t.val ∧ t.val + 1 = 16 := by decide +kernel

theorem off_slot_first : ∀ t : Fin grid0.N, isFirst (grid0.coords t) → (![0, 0, 0] : Fin 3 → Nat) = ![(Ring.sl 2 t.val).val, 0, 0] := by decide +kernel
theorem off_cell_first : ∀ t : Fin grid0.N, isFirst (grid0.coords t) → (![0] : Fin 1 → Nat) = ![(Ring.sl 2 t.val).val] := by decide +kernel
theorem off_block_first : ∀ t : Fin grid0.N, isFirst (grid0.coords t) → (![0, 0] : Fin 2 → Nat) = ![8192 * (Ring.bk 16 t.val).val, 0] := by decide +kernel
theorem off_slot_next : ∀ t : Fin grid0.N, k0_off2 (grid0.coords t) = ![(Ring.sl 2 (t.val + 1)).val, 0, 0] := by decide +kernel
theorem off_cell_next : ∀ t : Fin grid0.N, k0_off1 (grid0.coords t) = ![(Ring.sl 2 (t.val + 1)).val] := by decide +kernel
theorem off_block_next : ∀ t : Fin grid0.N, hasNext (grid0.coords t) → k0_off3 (grid0.coords t) = ![8192 * (Ring.bk 16 (t.val + 1)).val, 0] := by decide +kernel
theorem off_slot_here : ∀ t : Fin grid0.N, k0_off5 (grid0.coords t) = ![(Ring.sl 2 t.val).val, 0, 0] := by decide +kernel
theorem off_cell_here : ∀ t : Fin grid0.N, k0_off4 (grid0.coords t) = ![(Ring.sl 2 t.val).val] := by decide +kernel
theorem off_load : ∀ t : Fin grid0.N, k0_off6 (grid0.coords t) = ![(Ring.sl 2 t.val).val, 0, 0] := by decide +kernel

/-- Two slots at equal offsets are the same memref; likewise two cells, two blocks. -/
theorem slot_name {o : Fin 3 → Nat} {s : Fin 2} (h : ∀ a, o a + S1x8192x256.size a ≤ S2x8192x256.size a) (e : o = ![s.val, 0, 0]) :
    (scrM.slice (Rect.unit (s := S2x8192x256) o S1x8192x256.size h) (fun _ => rfl)).squeeze S8192x256 squeezes_S1x8192x256_S8192x256 = slotM s := by
  subst e; rfl
theorem cell_name {o : Fin 1 → Nat} {s : Fin 2} (h : ∀ a, o a + S1.size a ≤ S2.size a) (e : o = ![s.val]) :
    (cc0_scratch1.slice (Rect.unit (s := S2) o S1.size h)).squeeze S_ squeezes_S1_S_ = cellM s := by
  subst e; rfl
theorem block_name {o : Fin 2 → Nat} {b : Fin 16} (h : ∀ a, o a + S8192x256.size a ≤ S131072x256.size a) (e : o = ![8192 * b.val, 0]) :
    rowM.slice (Rect.unit (s := S131072x256) o S8192x256.size h) (fun _ => rfl) = blockM b := by
  subst e; rfl

@[sl_canon] theorem name_slot_first (t : Fin grid0.N) (h : isFirst (grid0.coords t)) :
    (scrM.slice (Rect.unit (s := S2x8192x256) ![0, 0, 0] S1x8192x256.size inb_S2x8192x256_S1x8192x256_0_0_0) (fun _ => rfl)).squeeze S8192x256 squeezes_S1x8192x256_S8192x256 = slotM (Ring.sl 2 t.val) :=
  slot_name _ (off_slot_first t h)
@[sl_canon] theorem name_cell_first (t : Fin grid0.N) (h : isFirst (grid0.coords t)) :
    (cc0_scratch1.slice (Rect.unit (s := S2) ![0] S1.size inb_S2_S1_0)).squeeze S_ squeezes_S1_S_ = cellM (Ring.sl 2 t.val) :=
  cell_name _ (off_cell_first t h)
@[sl_canon] theorem name_block_first (t : Fin grid0.N) (h : isFirst (grid0.coords t)) :
    rowM.slice (Rect.unit (s := S131072x256) ![0, 0] S8192x256.size inb_S131072x256_S8192x256_0_0) (fun _ => rfl) = blockM (Ring.bk 16 t.val) :=
  block_name _ (off_block_first t h)
@[sl_canon] theorem name_slot_next (t : Fin grid0.N) (h : hasNext (grid0.coords t)) :
    (scrM.slice (Rect.unit (s := S2x8192x256) (k0_off2 (grid0.coords t)) S1x8192x256.size (k0_off2_inb (grid0.coords t) h)) (fun _ => rfl)).squeeze S8192x256 squeezes_S1x8192x256_S8192x256 = slotM (Ring.sl 2 (t.val + 1)) :=
  slot_name _ (off_slot_next t)
@[sl_canon] theorem name_cell_next (t : Fin grid0.N) (h : hasNext (grid0.coords t)) :
    (cc0_scratch1.slice (Rect.unit (s := S2) (k0_off1 (grid0.coords t)) S1.size (k0_off1_inb (grid0.coords t) h))).squeeze S_ squeezes_S1_S_ = cellM (Ring.sl 2 (t.val + 1)) :=
  cell_name _ (off_cell_next t)
@[sl_canon] theorem name_block_next (t : Fin grid0.N) (h : hasNext (grid0.coords t)) :
    rowM.slice (Rect.unit (s := S131072x256) (k0_off3 (grid0.coords t)) S8192x256.size (k0_off3_inb (grid0.coords t) h)) (fun _ => rfl) = blockM (Ring.bk 16 (t.val + 1)) :=
  block_name _ (off_block_next t h)
@[sl_canon] theorem name_slot_here (t : Fin grid0.N) :
    (scrM.slice (Rect.unit (s := S2x8192x256) (k0_off5 (grid0.coords t)) S1x8192x256.size (k0_off5_inb (grid0.coords t))) (fun _ => rfl)).squeeze S8192x256 squeezes_S1x8192x256_S8192x256 = slotM (Ring.sl 2 t.val) :=
  slot_name _ (off_slot_here t)
@[sl_canon] theorem name_cell_here (t : Fin grid0.N) :
    (cc0_scratch1.slice (Rect.unit (s := S2) (k0_off4 (grid0.coords t)) S1.size (k0_off4_inb (grid0.coords t)))).squeeze S_ squeezes_S1_S_ = cellM (Ring.sl 2 t.val) :=
  cell_name _ (off_cell_here t)
instance (priority := high) closed_load (t : Fin grid0.N) : ClosedOff (k0_off6 (grid0.coords t)) := ⟨![(Ring.sl 2 t.val).val, 0, 0], off_load t⟩
end Names

end Cert.KernelIdeal.Pf

end
-- ==== Proof.Run0.lean ====
/- One run of the first kernel's body, in the three cases its four `if`s leave: the first point, the points between, the
   last. Each says which values the four running sums hold afterwards, and hands the ring on. -/
module

public import proofs.«01_k».proof.Proof.Ring0
public import Idealize.ShloMosaic.Lib.VecWindow

@[expose] public section

set_option maxRecDepth 16384

noncomputable section

namespace Cert.KernelIdeal.Pf

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the body loads -/

section Slab
variable (c : Dev nD) (W : BufOf (F := F) c logM)
theorem slab_casts : S8192x256.ShapeCasts S1x8192x256 := shapeCasts_S1x8192x256_S8192x256.symm
/-- Block `b` of the logits, as the body loads it from its slot: with one leading axis more. -/
def slab (b : Fin 16) : Vec F S1x8192x256 .f32 := shapeCast S1x8192x256 ((blockM b).view.read (Elt F) W) slab_casts

omit [FloatOps F] in
theorem loaded_at (s : Fin 2) (b : Fin 16) (o : Fin 3 → Nat) (h : ∀ a, o a + S1x8192x256.size a ≤ S2x8192x256.size a) (e : o = ![s.val, 0, 0])
    (f : BufOf (F := F) c (slotM s)) :
    View.readAt (Elt F) scrM.view (Rect.unit (s := S2x8192x256) o S1x8192x256.size h).toLoadRect (landed c W s b f) = slab c W b := by
  subst e
  have hr : (slotM s).view.read (Elt F) (landed c W s b f) = (blockM b).view.read (Elt F) W :=
    View.read_writes_whole _ _ _
  funext x
  unfold slab shapeCast
  rw [← hr]
  show _ = View.readAt (Elt F) scrM.view (Rect.unit (s := S2x8192x256) ![s.val, 0, 0] S1x8192x256.size h).toLoadRect (landed c W s b f) (Shape.reshapeEquiv _ (Shape.reshapeEquiv _ x))
  rw [Shape.reshapeEquiv_reshapeEquiv, Shape.reshapeEquiv_self]

omit [FloatOps F] in
/-- Reading slot and block of point `t` back gives that block. -/
theorem loaded (t : Fin grid0.N) (h : ∀ a, k0_off6 (grid0.coords t) a + S1x8192x256.size a ≤ S2x8192x256.size a)
    (f : BufOf (F := F) c (slotM (Ring.sl 2 t.val))) :
    View.readAt (Elt F) scrM.view (Rect.unit (s := S2x8192x256) (k0_off6 (grid0.coords t)) S1x8192x256.size h).toLoadRect
      (landed c W (Ring.sl 2 t.val) (Ring.bk 16 t.val) f) = slab c W (Ring.bk 16 t.val) :=
  loaded_at c W _ _ _ h (off_load t) f
end Slab

omit [FloatOps F] in
/-- A whole staging buffer loaded through the full rectangle is its contents. -/
theorem whole_load {S : Shape} {e : EltTy} {M : Memref sig .tc .vmem S e} (hM : M.IsWhole) {off : Fin S.rank → ℕ} (inb : ∀ a, off a + S.size a ≤ S.size a) (x : Vec F S e) :
    View.readAt (Elt F) M.view (Rect.unit (s := S) off S.size inb).toLoadRect (hM.unread x) = x :=
  (View.readAt_full _ _ inb).trans (hM.read_unread x)

/-! ## What one point adds to the four sums -/

section Sums
variable (v : Vec F S1x8192x256 .f32) (x : Vec F S8192x128 .i32)
/-- The cross entropies, the labels, the predictions and the true positives of one block, summed down to one tile. -/
def ceSum : Vec F S8x128 .f32 := k0_pay2 (k0_pay12 v x)
def labSum : Vec F S8x128 .f32 := k0_pay3 (k0_pay11 (F := F) x)
def predSum : Vec F S8x128 .f32 := k0_pay4 (k0_pay10 v) (k0_pay13 (F := F))
def tpSum : Vec F S8x128 .f32 := k0_pay5 (k0_pay10 v) (k0_pay11 (F := F) x) (k0_pay13 (F := F))
/-- The same, on top of what was summed before. -/
def ceAdd (p : Vec F S8x128 .f32) : Vec F S8x128 .f32 := k0_pay6 (k0_pay12 v x) p
def labAdd (p : Vec F S8x128 .f32) : Vec F S8x128 .f32 := k0_pay7 (k0_pay11 (F := F) x) p
def predAdd (p : Vec F S8x128 .f32) : Vec F S8x128 .f32 := k0_pay8 (k0_pay10 v) (k0_pay13 (F := F)) p
def tpAdd (p : Vec F S8x128 .f32) : Vec F S8x128 .f32 := k0_pay9 (k0_pay10 v) (k0_pay11 (F := F) x) (k0_pay13 (F := F)) p
end Sums

set_option maxHeartbeats 1000000 in
/-- The first point: both transfers are started, the first block is awaited, and the sums are set. -/
theorem run_first (c : Dev nD) (t : Fin cfg0.N)
    (arg2 : Memref sig .tc .vmem S8192x128 .i32) (harg2 : arg2.IsWhole)
    (arg3 : Memref sig .tc .vmem S8x128 .f32) (harg3 : arg3.IsWhole)
    (arg4 : Memref sig .tc .vmem S8x128 .f32) (harg4 : arg4.IsWhole)
    (arg5 : Memref sig .tc .vmem S8x128 .f32) (harg5 : arg5.IsWhole)
    (arg6 : Memref sig .tc .vmem S8x128 .f32) (harg6 : arg6.IsWhole)
    (hc0 : isFirst (grid0.coords t)) (hc1 : hasNext (grid0.coords t)) (hc2 : doesSet (grid0.coords t)) (hc3 : ¬doesAdd (grid0.coords t))
    (x0 : Vec F S8192x128 .i32) (fh0 : BufOf (F := F) c logM) (W : Waits sig Unit) (K : PUnit → sProp 𝕄) :
    iprop(owns (c : Thread nD τ) arg2 fullShare x0 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
        ∗ Ring.free (cellPt c) (slotRes c fh0) (Ring.sl 2 t.val) ∗ Ring.free (cellPt c) (slotRes c fh0) (Ring.sl 2 (t.val + 1)) ∗ owes (c : Thread nD τ) 0 W
        ∗ (iprop(owns (c : Thread nD τ) arg2 fullShare x0
              ∗ owns (c : Thread nD τ) arg3 fullShare (ceSum (slab c fh0 (Ring.bk 16 t.val)) x0)
              ∗ owns (c : Thread nD τ) arg4 fullShare (labSum x0)
              ∗ owns (c : Thread nD τ) arg5 fullShare (predSum (slab c fh0 (Ring.bk 16 t.val)))
              ∗ owns (c : Thread nD τ) arg6 fullShare (tpSum (slab c fh0 (Ring.bk 16 t.val)) x0)
              ∗ Ring.inflight (flightRes c fh0) (Ring.sl 2 (t.val + 1)) (Ring.bk 16 (t.val + 1)) ∗ Ring.kept (cellPt c) (slotRes c fh0) (landed c fh0) (Ring.sl 2 t.val) (Ring.bk 16 t.val) ∗ (∃ W', owes (c : Thread nD τ) 0 W')) -∗ K ⟨⟩))
      ⊢ wp frame (wpE (defs₀ (F := F)) Variants.none c none) Set.univ (cc0__partial_kernel (grid0.coords t) logM (Memref.isWhole_whole _) arg2 harg2 arg3 harg3 arg4 harg4 arg5 harg5 arg6 harg6 scrM (Memref.isWhole_whole _) cc0_scratch1) K := by
  haveI : Fact (isFirst (grid0.coords t)) := ⟨hc0⟩
  haveI : Fact (hasNext (grid0.coords t)) := ⟨hc1⟩
  haveI : Fact (doesSet (grid0.coords t)) := ⟨hc2⟩
  haveI : Fact (¬doesAdd (grid0.coords t)) := ⟨hc3⟩
  simp only [cc0__partial_kernel_eq_skeleton]; unfold cc0__partial_kernel_skel
  simp only [k0_part1_eq_skeleton]
  have hslot := name_slot_first t hc0
  have hcell := name_cell_first t hc0
  have hblock := name_block_first t hc0
  unfold owns Ring.free Ring.inflight Ring.kept
  iintro ⟨⟨%f0, %hf0, H0⟩, ⟨%d1, %f1, -, H1⟩, ⟨%d2, %f2, -, H2⟩, ⟨%d3, %f3, -, H3⟩, ⟨%d4, %f4, -, H4⟩, ⟨Hc, ⟨%fs, Hs, Hw⟩⟩, ⟨Hc', ⟨%fs', Hs', Hw'⟩⟩, HW, Hk⟩
  ihave Hsp := (half_split c fh0 (Ring.sl 2 t.val) (Ring.bk 16 t.val)).1 $$ Hw
  icases Hsp with ⟨Hh, Hr⟩
  ihave Hsp' := (half_split c fh0 (Ring.sl 2 (t.val + 1)) (Ring.bk 16 (t.val + 1))).1 $$ Hw'
  icases Hsp' with ⟨Hh', Hr'⟩
  obtain rfl := harg2.eq_unread hf0
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; swap; · iexact H1
    ipureintro; exact (View.read_writes_full _ _ _ _ _).trans (congrArg₂ ceSum (loaded c fh0 t _ _) (whole_load harg2 _ x0))
  isplitl [H2]
  · iexists _; isplitr; swap; · iexact H2
    ipureintro; exact (View.read_writes_full _ _ _ _ _).trans (congrArg labSum (whole_load harg2 _ x0))
  isplitl [H3]
  · iexists _; isplitr; swap; · iexact H3
    ipureintro; exact (View.read_writes_full _ _ _ _ _).trans (congrArg predSum (loaded c fh0 t _ _))
  isplitl [H4]
  · iexists _; isplitr; swap; · iexact H4
    ipureintro; exact (View.read_writes_full _ _ _ _ _).trans (congrArg₂ tpSum (loaded c fh0 t _ _) (whole_load harg2 _ x0))
  isplitl [Hc' Hr']
  · iexists _; isplitl [Hc']; · iexact Hc'
    iexact Hr'
  isplitl [Hc Hs Hh Hr]
  · isplitl [Hc]; · iexact Hc
    iexists _; isplitl [Hs]; · iexact Hs
    iapply (half_split c fh0 (Ring.sl 2 t.val) (Ring.bk 16 t.val)).2; isplitl [Hh]; · iexact Hh
    iexact Hr
  iexists _; iexact HW

set_option maxHeartbeats 1000000 in
/-- A point between: the next block is started, this one awaited, and the sums grow. -/
theorem run_mid (c : Dev nD) (t : Fin cfg0.N)
    (arg2 : Memref sig .tc .vmem S8192x128 .i32) (harg2 : arg2.IsWhole)
    (arg3 : Memref sig .tc .vmem S8x128 .f32) (harg3 : arg3.IsWhole)
    (arg4 : Memref sig .tc .vmem S8x128 .f32) (harg4 : arg4.IsWhole)
    (arg5 : Memref sig .tc .vmem S8x128 .f32) (harg5 : arg5.IsWhole)
    (arg6 : Memref sig .tc .vmem S8x128 .f32) (harg6 : arg6.IsWhole)
    (hc0 : ¬isFirst (grid0.coords t)) (hc1 : hasNext (grid0.coords t)) (hc2 : ¬doesSet (grid0.coords t)) (hc3 : doesAdd (grid0.coords t))
    (x0 : Vec F S8192x128 .i32) (p1 p2 p3 p4 : Vec F S8x128 .f32) (fh0 : BufOf (F := F) c logM) (W : Waits sig Unit) (K : PUnit → sProp 𝕄) :
    iprop(owns (c : Thread nD τ) arg2 fullShare x0 ∗ owns (c : Thread nD τ) arg3 fullShare p1 ∗ owns (c : Thread nD τ) arg4 fullShare p2 ∗ owns (c : Thread nD τ) arg5 fullShare p3 ∗ owns (c : Thread nD τ) arg6 fullShare p4
        ∗ Ring.inflight (flightRes c fh0) (Ring.sl 2 t.val) (Ring.bk 16 t.val) ∗ Ring.kept (cellPt c) (slotRes c fh0) (landed c fh0) (Ring.sl 2 (t.val + 1)) (Ring.bk 16 (t.val - 1)) ∗ owes (c : Thread nD τ) 0 W
        ∗ (iprop(owns (c : Thread nD τ) arg2 fullShare x0
              ∗ owns (c : Thread nD τ) arg3 fullShare (ceAdd (slab c fh0 (Ring.bk 16 t.val)) x0 p1)
              ∗ owns (c : Thread nD τ) arg4 fullShare (labAdd x0 p2)
              ∗ owns (c : Thread nD τ) arg5 fullShare (predAdd (slab c fh0 (Ring.bk 16 t.val)) p3)
              ∗ owns (c : Thread nD τ) arg6 fullShare (tpAdd (slab c fh0 (Ring.bk 16 t.val)) x0 p4)
              ∗ Ring.inflight (flightRes c fh0) (Ring.sl 2 (t.val + 1)) (Ring.bk 16 (t.val + 1)) ∗ Ring.kept (cellPt c) (slotRes c fh0) (landed c fh0) (Ring.sl 2 t.val) (Ring.bk 16 t.val) ∗ (∃ W', owes (c : Thread nD τ) 0 W')) -∗ K ⟨⟩))
      ⊢ wp frame (wpE (defs₀ (F := F)) Variants.none c none) Set.univ (cc0__partial_kernel (grid0.coords t) logM (Memref.isWhole_whole _) arg2 harg2 arg3 harg3 arg4 harg4 arg5 harg5 arg6 harg6 scrM (Memref.isWhole_whole _) cc0_scratch1) K := by
  haveI : Fact (¬isFirst (grid0.coords t)) := ⟨hc0⟩
  haveI : Fact (hasNext (grid0.coords t)) := ⟨hc1⟩
  haveI : Fact (¬doesSet (grid0.coords t)) := ⟨hc2⟩
  haveI : Fact (doesAdd (grid0.coords t)) := ⟨hc3⟩
  simp only [cc0__partial_kernel_eq_skeleton]; unfold cc0__partial_kernel_skel
  simp only [k0_part1_eq_skeleton]
  unfold owns Ring.inflight Ring.kept
  iintro ⟨⟨%f0, %hf0, H0⟩, ⟨%f1, %hf1, H1⟩, ⟨%f2, %hf2, H2⟩, ⟨%f3, %hf3, H3⟩, ⟨%f4, %hf4, H4⟩, ⟨%ff, Hf, Hrf⟩, ⟨Hc, ⟨%fs, Hs, Hw⟩⟩, HW, Hk⟩
  ihave Hsp := (half_split c fh0 (Ring.sl 2 (t.val + 1)) (Ring.bk 16 (t.val + 1))).1 $$ Hw
  icases Hsp with ⟨Hh, Hr⟩
  obtain rfl := harg2.eq_unread hf0
  obtain rfl := harg3.eq_unread hf1
  obtain rfl := harg4.eq_unread hf2
  obtain rfl := harg5.eq_unread hf3
  obtain rfl := harg6.eq_unread hf4
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; swap; · iexact H1
    ipureintro; exact (View.read_writes_full _ _ _ _ _).trans (congr (congrArg₂ ceAdd (loaded c fh0 t _ _) (whole_load harg2 _ x0)) (whole_load harg3 _ p1))
  isplitl [H2]
  · iexists _; isplitr; swap; · iexact H2
    ipureintro; exact (View.read_writes_full _ _ _ _ _).trans (congrArg₂ labAdd (whole_load harg2 _ x0) (whole_load harg4 _ p2))
  isplitl [H3]
  · iexists _; isplitr; swap; · iexact H3
    ipureintro; exact (View.read_writes_full _ _ _ _ _).trans (congrArg₂ predAdd (loaded c fh0 t _ _) (whole_load harg5 _ p3))
  isplitl [H4]
  · iexists _; isplitr; swap; · iexact H4
    ipureintro; exact (View.read_writes_full _ _ _ _ _).trans (congr (congrArg₂ tpAdd (loaded c fh0 t _ _) (whole_load harg2 _ x0)) (whole_load harg6 _ p4))
  isplitl [Hc Hr]
  · iexists _; isplitl [Hc]; · iexact Hc
    iexact Hr
  isplitl [Hf Hf_dst Hf_src Hrf]
  · isplitl [Hf]; · iexact Hf
    iexists _; isplitl [Hf_dst]; · iexact Hf_dst
    iapply (half_split c fh0 (Ring.sl 2 t.val) (Ring.bk 16 t.val)).2; isplitl [Hf_src]; · iexact Hf_src
    iexact Hrf
  iexists _; iexact HW

set_option maxHeartbeats 1000000 in
/-- The last point: nothing more is started. -/
theorem run_last (c : Dev nD) (t : Fin cfg0.N)
    (arg2 : Memref sig .tc .vmem S8192x128 .i32) (harg2 : arg2.IsWhole)
    (arg3 : Memref sig .tc .vmem S8x128 .f32) (harg3 : arg3.IsWhole)
    (arg4 : Memref sig .tc .vmem S8x128 .f32) (harg4 : arg4.IsWhole)
    (arg5 : Memref sig .tc .vmem S8x128 .f32) (harg5 : arg5.IsWhole)
    (arg6 : Memref sig .tc .vmem S8x128 .f32) (harg6 : arg6.IsWhole)
    (hc0 : ¬isFirst (grid0.coords t)) (hc1 : ¬hasNext (grid0.coords t)) (hc2 : ¬doesSet (grid0.coords t)) (hc3 : doesAdd (grid0.coords t))
    (x0 : Vec F S8192x128 .i32) (p1 p2 p3 p4 : Vec F S8x128 .f32) (fh0 : BufOf (F := F) c logM) (W : Waits sig Unit) (K : PUnit → sProp 𝕄) :
    iprop(owns (c : Thread nD τ) arg2 fullShare x0 ∗ owns (c : Thread nD τ) arg3 fullShare p1 ∗ owns (c : Thread nD τ) arg4 fullShare p2 ∗ owns (c : Thread nD τ) arg5 fullShare p3 ∗ owns (c : Thread nD τ) arg6 fullShare p4
        ∗ Ring.inflight (flightRes c fh0) (Ring.sl 2 t.val) (Ring.bk 16 t.val) ∗ owes (c : Thread nD τ) 0 W
        ∗ (iprop(owns (c : Thread nD τ) arg2 fullShare x0
              ∗ owns (c : Thread nD τ) arg3 fullShare (ceAdd (slab c fh0 (Ring.bk 16 t.val)) x0 p1)
              ∗ owns (c : Thread nD τ) arg4 fullShare (labAdd x0 p2)
              ∗ owns (c : Thread nD τ) arg5 fullShare (predAdd (slab c fh0 (Ring.bk 16 t.val)) p3)
              ∗ owns (c : Thread nD τ) arg6 fullShare (tpAdd (slab c fh0 (Ring.bk 16 t.val)) x0 p4)
              ∗ Ring.kept (cellPt c) (slotRes c fh0) (landed c fh0) (Ring.sl 2 t.val) (Ring.bk 16 t.val) ∗ (∃ W', owes (c : Thread nD τ) 0 W')) -∗ K ⟨⟩))
      ⊢ wp frame (wpE (defs₀ (F := F)) Variants.none c none) Set.univ (cc0__partial_kernel (grid0.coords t) logM (Memref.isWhole_whole _) arg2 harg2 arg3 harg3 arg4 harg4 arg5 harg5 arg6 harg6 scrM (Memref.isWhole_whole _) cc0_scratch1) K := by
  haveI : Fact (¬isFirst (grid0.coords t)) := ⟨hc0⟩
  haveI : Fact (¬hasNext (grid0.coords t)) := ⟨hc1⟩
  haveI : Fact (¬doesSet (grid0.coords t)) := ⟨hc2⟩
  haveI : Fact (doesAdd (grid0.coords t)) := ⟨hc3⟩
  simp only [cc0__partial_kernel_eq_skeleton]; unfold cc0__partial_kernel_skel
  simp only [k0_part1_eq_skeleton]
  unfold owns Ring.inflight Ring.kept
  iintro ⟨⟨%f0, %hf0, H0⟩, ⟨%f1, %hf1, H1⟩, ⟨%f2, %hf2, H2⟩, ⟨%f3, %hf3, H3⟩, ⟨%f4, %hf4, H4⟩, ⟨%ff, Hf, Hrf⟩, HW, Hk⟩
  obtain rfl := harg2.eq_unread hf0
  obtain rfl := harg3.eq_unread hf1
  obtain rfl := harg4.eq_unread hf2
  obtain rfl := harg5.eq_unread hf3
  obtain rfl := harg6.eq_unread hf4
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; swap; · iexact H1
    ipureintro; exact (View.read_writes_full _ _ _ _ _).trans (congr (congrArg₂ ceAdd (loaded c fh0 t _ _) (whole_load harg2 _ x0)) (whole_load harg3 _ p1))
  isplitl [H2]
  · iexists _; isplitr; swap; · iexact H2
    ipureintro; exact (View.read_writes_full _ _ _ _ _).trans (congrArg₂ labAdd (whole_load harg2 _ x0) (whole_load harg4 _ p2))
  isplitl [H3]
  · iexists _; isplitr; swap; · iexact H3
    ipureintro; exact (View.read_writes_full _ _ _ _ _).trans (congrArg₂ predAdd (loaded c fh0 t _ _) (whole_load harg5 _ p3))
  isplitl [H4]
  · iexists _; isplitr; swap; · iexact H4
    ipureintro; exact (View.read_writes_full _ _ _ _ _).trans (congr (congrArg₂ tpAdd (loaded c fh0 t _ _) (whole_load harg2 _ x0)) (whole_load harg6 _ p4))
  isplitl [Hf Hf_dst Hf_src Hrf]
  · isplitl [Hf]; · iexact Hf
    iexists _; isplitl [Hf_dst]; · iexact Hf_dst
    iapply (half_split c fh0 (Ring.sl 2 t.val) (Ring.bk 16 t.val)).2; isplitl [Hf_src]; · iexact Hf_src
    iexact Hrf
  iexists _; iexact HW

end Cert.KernelIdeal.Pf

end
-- ==== Proof.Region0.lean ====
/- The first kernel's pipeline: what its staging buffers hold before and after each of the sixteen points, and that the
   body keeps that promise. The four sums are given by recursion over the points. -/
module

public import proofs.«01_k».proof.Proof.Run0

public import Idealize.ShloMosaic.Lib.Pipeline.TableIdle

@[expose] public section

set_option maxRecDepth 16384

noncomputable section

namespace Cert.KernelIdeal.Pf

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region
-- the TensorCore's buffers as the region finds them
variable (V : (c : Dev nD) → (b : Ref sig .tc) → Buf (Elt F) ((c : Thread nD τ).loc b))

/-! ## The values -/

/-- Window `w`'s block at point `t`, read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The point numbered `n` (numbers count modulo 16). -/
def ptOf (n : ℕ) : Fin cfg0.N := ⟨n % 16, (Nat.mod_lt n (by decide)).trans_eq N_0.symm⟩
theorem ptOf_val (t : Fin cfg0.N) : ptOf t.val = t :=
  Fin.ext (Nat.mod_eq_of_lt (lt_of_lt_of_eq t.isLt (show cfg0.N = 16 from N_0)))

/-- The labels and the logits of point `n`. -/
def labBlk (c : Dev nD) (n : ℕ) : Vec F S8192x128 .i32 := iblk0 V c 0 (ptOf n)
def logBlk (c : Dev nD) (n : ℕ) : Vec F S1x8192x256 .f32 := slab c (V c main_v2) (Ring.bk 16 n)
theorem labBlk_val (c : Dev nD) (t : Fin cfg0.N) : labBlk V c t.val = iblk0 V c 0 t := by unfold labBlk; rw [ptOf_val]

/-- The four sums after point `n`. -/
def ceAt (c : Dev nD) : ℕ → Vec F S8x128 .f32
  | 0 => ceSum (logBlk V c 0) (labBlk V c 0)
  | n + 1 => ceAdd (logBlk V c (n + 1)) (labBlk V c (n + 1)) (ceAt c n)
def labAt (c : Dev nD) : ℕ → Vec F S8x128 .f32
  | 0 => labSum (labBlk V c 0)
  | n + 1 => labAdd (labBlk V c (n + 1)) (labAt c n)
def predAt (c : Dev nD) : ℕ → Vec F S8x128 .f32
  | 0 => predSum (logBlk V c 0)
  | n + 1 => predAdd (logBlk V c (n + 1)) (predAt c n)
def tpAt (c : Dev nD) : ℕ → Vec F S8x128 .f32
  | 0 => tpSum (logBlk V c 0) (labBlk V c 0)
  | n + 1 => tpAdd (logBlk V c (n + 1)) (labBlk V c (n + 1)) (tpAt c n)

/-! ## The proof data -/

/-- The second kernel's staging buffers, which this region only carries along. -/
def otherStages (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f))

/-- What holds before point `k`: the generator register, the ring, the other kernel's stages. -/
def inv0 (c : Dev nD) (k : ℕ) : sProp 𝕄 := iprop((∃ r, prngReg c r) ∗ ringAt c (V c main_v2) k ∗ otherStages c)

/-- The pipeline's data: the labels' buffer keeps its block, the four sums grow. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => ceAt V c t.val
    | ⟨2, _⟩ => labAt V c t.val
    | ⟨3, _⟩ => predAt V c t.val
    | ⟨4, _⟩ => tpAt V c t.val
  Φ t := inv0 V c t.val
  q _ := fullShare
  owed _ := 0

theorem A_eq0 (c : Dev nD) (w : Fin cfg0.W) : (dat0 V c).A w = V c (Pipeline.arrRef spec0 w) := by dsimp only [dat0]
theorem inv0_castSucc (c : Dev nD) (t : Fin cfg0.N) : (dat0 V c).Φ t.castSucc = inv0 V c t.val := by
  dsimp only [dat0]; simp only [Fin.val_castSucc]
theorem inv0_succ (c : Dev nD) (t : Fin cfg0.N) : (dat0 V c).Φ t.succ = inv0 V c (t.val + 1) := by
  dsimp only [dat0]; simp only [Fin.val_succ]
theorem after0_0 (c : Dev nD) (t : Fin cfg0.N) : (dat0 V c).after 0 t = iblk0 V c 0 t := by dsimp only [dat0]
theorem after0_1 (c : Dev nD) (t : Fin cfg0.N) : (dat0 V c).after 1 t = ceAt V c t.val := by dsimp only [dat0]
theorem after0_2 (c : Dev nD) (t : Fin cfg0.N) : (dat0 V c).after 2 t = labAt V c t.val := by dsimp only [dat0]
theorem after0_3 (c : Dev nD) (t : Fin cfg0.N) : (dat0 V c).after 3 t = predAt V c t.val := by dsimp only [dat0]
theorem after0_4 (c : Dev nD) (t : Fin cfg0.N) : (dat0 V c).after 4 t = tpAt V c t.val := by dsimp only [dat0]

/-! ## What the buffers hold before a point -/

/-- The labels' buffer holds the point's block. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-- A sum's buffer is fresh before the first point and after its write-back, which follows the last. -/
def freshTab : ℕ → Bool
  | 0 => true
  | n + 1 => (0x8000 : ℕ).testBit n
theorem notFresh (w : Fin cfg0.W) (step : ∀ t : Fin cfg0.N, freshTab (t.val + 1) = ((cfg0.win w).flush t || (cfg0.idle w (cfg0.grid.coords t) && freshTab t.val)))
    (t : Fin cfg0.N) (h : 1 ≤ t.val) : cfg0.fresh w t.val = false := by
  rw [Pipeline.Cfg.fresh_tab cfg0 w freshTab rfl step t.val (Nat.le_of_lt t.isLt)]
  revert t; decide +kernel
theorem live0_1 : ∀ t : Fin cfg0.N, cfg0.idle 1 (cfg0.grid.coords t) = false := by decide +kernel
theorem fresh0_1 : ∀ t : Fin cfg0.N, freshTab (t.val + 1) = ((cfg0.win 1).flush t || (cfg0.idle 1 (cfg0.grid.coords t) && freshTab t.val)) := by decide +kernel
theorem live0_2 : ∀ t : Fin cfg0.N, cfg0.idle 2 (cfg0.grid.coords t) = false := by decide +kernel
theorem fresh0_2 : ∀ t : Fin cfg0.N, freshTab (t.val + 1) = ((cfg0.win 2).flush t || (cfg0.idle 2 (cfg0.grid.coords t) && freshTab t.val)) := by decide +kernel
theorem live0_3 : ∀ t : Fin cfg0.N, cfg0.idle 3 (cfg0.grid.coords t) = false := by decide +kernel
theorem fresh0_3 : ∀ t : Fin cfg0.N, freshTab (t.val + 1) = ((cfg0.win 3).flush t || (cfg0.idle 3 (cfg0.grid.coords t) && freshTab t.val)) := by decide +kernel
theorem live0_4 : ∀ t : Fin cfg0.N, cfg0.idle 4 (cfg0.grid.coords t) = false := by decide +kernel
theorem fresh0_4 : ∀ t : Fin cfg0.N, freshTab (t.val + 1) = ((cfg0.win 4).flush t || (cfg0.idle 4 (cfg0.grid.coords t) && freshTab t.val)) := by decide +kernel
theorem before0_1 (c : Dev nD) (t : Fin cfg0.N) (h : 1 ≤ t.val) (d) : (dat0 V c).before 1 t d = ceAt V c (t.val - 1) := by
  rw [Dat.before_out_traj _ 1 rfl (fun _ _ => rfl) (fun t _ hi => absurd hi (by rw [live0_1 t]; exact Bool.false_ne_true)) t.val t rfl d,
    if_neg (by rw [notFresh 1 fresh0_1 t h]; exact Bool.false_ne_true)]
  dsimp only [dat0]
theorem before0_2 (c : Dev nD) (t : Fin cfg0.N) (h : 1 ≤ t.val) (d) : (dat0 V c).before 2 t d = labAt V c (t.val - 1) := by
  rw [Dat.before_out_traj _ 2 rfl (fun _ _ => rfl) (fun t _ hi => absurd hi (by rw [live0_2 t]; exact Bool.false_ne_true)) t.val t rfl d,
    if_neg (by rw [notFresh 2 fresh0_2 t h]; exact Bool.false_ne_true)]
  dsimp only [dat0]
theorem before0_3 (c : Dev nD) (t : Fin cfg0.N) (h : 1 ≤ t.val) (d) : (dat0 V c).before 3 t d = predAt V c (t.val - 1) := by
  rw [Dat.before_out_traj _ 3 rfl (fun _ _ => rfl) (fun t _ hi => absurd hi (by rw [live0_3 t]; exact Bool.false_ne_true)) t.val t rfl d,
    if_neg (by rw [notFresh 3 fresh0_3 t h]; exact Bool.false_ne_true)]
  dsimp only [dat0]
theorem before0_4 (c : Dev nD) (t : Fin cfg0.N) (h : 1 ≤ t.val) (d) : (dat0 V c).before 4 t d = tpAt V c (t.val - 1) := by
  rw [Dat.before_out_traj _ 4 rfl (fun _ _ => rfl) (fun t _ hi => absurd hi (by rw [live0_4 t]; exact Bool.false_ne_true)) t.val t rfl d,
    if_neg (by rw [notFresh 4 fresh0_4 t h]; exact Bool.false_ne_true)]
  dsimp only [dat0]
theorem leaves0_0 (c : Dev nD) (t : Fin cfg0.N) : (dat0 V c).leavesExact 0 t = owns (c : Thread nD τ) (stg0 t) fullShare (iblk0 V c 0 t) := by
  unfold Dat.leavesExact; rw [show cfg0.idle 0 (cfg0.grid.coords t) = false from rfl, after0_0]
theorem leaves0_1 (c : Dev nD) (t : Fin cfg0.N) : (dat0 V c).leavesExact 1 t = owns (c : Thread nD τ) (stg1 t) fullShare ((ceAt V c t.val)) := by
  unfold Dat.leavesExact; rw [live0_1 t, after0_1]
theorem leaves0_2 (c : Dev nD) (t : Fin cfg0.N) : (dat0 V c).leavesExact 2 t = owns (c : Thread nD τ) (stg2 t) fullShare ((labAt V c t.val)) := by
  unfold Dat.leavesExact; rw [live0_2 t, after0_2]
theorem leaves0_3 (c : Dev nD) (t : Fin cfg0.N) : (dat0 V c).leavesExact 3 t = owns (c : Thread nD τ) (stg3 t) fullShare ((predAt V c t.val)) := by
  unfold Dat.leavesExact; rw [live0_3 t, after0_3]
theorem leaves0_4 (c : Dev nD) (t : Fin cfg0.N) : (dat0 V c).leavesExact 4 t = owns (c : Thread nD τ) (stg4 t) fullShare ((tpAt V c t.val)) := by
  unfold Dat.leavesExact; rw [live0_4 t, after0_4]

/-! ## The body keeps its promise -/

def bodyPre0 (c : Dev nD) (t : Fin cfg0.N) : sProp 𝕄 :=
  iprop((dat0 V c).Φ t.castSucc ∗ (dat0 V c).owesAt () t.castSucc
    ∗ (∃ d, owns (c : Thread nD τ) (stg0 t) fullShare ((dat0 V c).before 0 t d))
    ∗ (∃ d, owns (c : Thread nD τ) (stg1 t) fullShare ((dat0 V c).before 1 t d))
    ∗ (∃ d, owns (c : Thread nD τ) (stg2 t) fullShare ((dat0 V c).before 2 t d))
    ∗ (∃ d, owns (c : Thread nD τ) (stg3 t) fullShare ((dat0 V c).before 3 t d))
    ∗ (∃ d, owns (c : Thread nD τ) (stg4 t) fullShare ((dat0 V c).before 4 t d)))
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t ∗ (dat0 V c).leavesExact 3 t ∗ (dat0 V c).leavesExact 4 t)

theorem ceAt_first (c : Dev nD) (t : Fin cfg0.N) (h : t.val = 0) : ceAt V c t.val = ceSum (slab c (V c main_v2) (Ring.bk 16 t.val)) (iblk0 V c 0 t) := by
  rw [← labBlk_val V c t]; rw [h]; rfl
theorem labAt_first (c : Dev nD) (t : Fin cfg0.N) (h : t.val = 0) : labAt V c t.val = labSum (iblk0 V c 0 t) := by
  rw [← labBlk_val V c t]; rw [h]; rfl
theorem predAt_first (c : Dev nD) (t : Fin cfg0.N) (h : t.val = 0) : predAt V c t.val = predSum (slab c (V c main_v2) (Ring.bk 16 t.val)) := by
  rw [h]; rfl
theorem tpAt_first (c : Dev nD) (t : Fin cfg0.N) (h : t.val = 0) : tpAt V c t.val = tpSum (slab c (V c main_v2) (Ring.bk 16 t.val)) (iblk0 V c 0 t) := by
  rw [← labBlk_val V c t]; rw [h]; rfl
theorem ceAt_next (c : Dev nD) (t : Fin cfg0.N) (h : 1 ≤ t.val) : ceAt V c t.val = ceAdd (slab c (V c main_v2) (Ring.bk 16 t.val)) (iblk0 V c 0 t) (ceAt V c (t.val - 1)) := by
  rw [← labBlk_val V c t]; obtain ⟨n, hn⟩ : ∃ n, t.val = n + 1 := ⟨t.val - 1, by omega⟩
  rw [hn]; rfl
theorem labAt_next (c : Dev nD) (t : Fin cfg0.N) (h : 1 ≤ t.val) : labAt V c t.val = labAdd (iblk0 V c 0 t) (labAt V c (t.val - 1)) := by
  rw [← labBlk_val V c t]; obtain ⟨n, hn⟩ : ∃ n, t.val = n + 1 := ⟨t.val - 1, by omega⟩
  rw [hn]; rfl
theorem predAt_next (c : Dev nD) (t : Fin cfg0.N) (h : 1 ≤ t.val) : predAt V c t.val = predAdd (slab c (V c main_v2) (Ring.bk 16 t.val)) (predAt V c (t.val - 1)) := by
  obtain ⟨n, hn⟩ : ∃ n, t.val = n + 1 := ⟨t.val - 1, by omega⟩
  rw [hn]; rfl
theorem tpAt_next (c : Dev nD) (t : Fin cfg0.N) (h : 1 ≤ t.val) : tpAt V c t.val = tpAdd (slab c (V c main_v2) (Ring.bk 16 t.val)) (iblk0 V c 0 t) (tpAt V c (t.val - 1)) := by
  rw [← labBlk_val V c t]; obtain ⟨n, hn⟩ : ∃ n, t.val = n + 1 := ⟨t.val - 1, by omega⟩
  rw [hn]; rfl

set_option maxHeartbeats 1600000 in
/-- At any point the body turns the one into the other: the point is the first, one between, or the last. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [inv0_castSucc V c t, inv0_succ V c t, leaves0_0, leaves0_1, leaves0_2, leaves0_3, leaves0_4]
  unfold Dat.owesAt Pipeline.owesWithin
  rw [show (dat0 V c).owed t.castSucc = 0 from rfl, show (dat0 V c).owed t.succ = 0 from rfl]
  unfold inv0 ringAt
  have hgN : grid0.N = 16 := N_0
  have hN : t.val < 16 := lt_of_lt_of_eq t.isLt (show cfg0.N = 16 from N_0)
  by_cases h0 : t.val = 0
  · rw [ceAt_first V c t h0, labAt_first V c t h0, predAt_first V c t h0, tpAt_first V c t h0]
    rw [if_pos h0, if_neg (show ¬t.val + 1 = 0 by omega)]
    rw [Ring.At₀_eq2' _ _ _ t.val h0 (by decide : 2 ≤ 16), Ring.AtK2_one' _ _ _ _ _ t.val h0 (by decide : 1 < 16)]
    iintro ⟨⟨Hg, ⟨-, Ha, Hb⟩, Hs⟩, ⟨%W, -, HW⟩, ⟨%d0, H0⟩, ⟨%d1, H1⟩, ⟨%d2, H2⟩, ⟨%d3, H3⟩, ⟨%d4, H4⟩⟩
    iapply (run_first c t (stg0 t) (stg0_whole t) (stg1 t) (stg1_whole t) (stg2 t) (stg2_whole t) (stg3 t) (stg3_whole t) (stg4 t) (stg4_whole t) ((isFirst_iff t).mpr h0) ((hasNext_iff t).mpr (by omega)) ((doesSet_iff t).mpr h0) (fun h => by have := (doesAdd_iff t).mp h; omega)
      (iblk0 V c 0 t) (V c main_v2) W _)
    isplitl [H0]; · iexact H0
    isplitl [H1]; · iexists _; iexact H1
    isplitl [H2]; · iexists _; iexact H2
    isplitl [H3]; · iexists _; iexact H3
    isplitl [H4]; · iexists _; iexact H4
    isplitl [Ha]; · iexact Ha
    isplitl [Hb]; · iexact Hb
    isplitl [HW]; · iexact HW
    iintro ⟨H0, H1, H2, H3, H4, Hf', Hk', ⟨%W', HW'⟩⟩
    isplitl [Hg Hs Hf' Hk']
    · isplitl [Hg]; · iexact Hg
      isplitl [Hf' Hk']
      · iapply Ring.with_homes₀
        isplitl [Hf']; · iexact Hf'
        iexact Hk'
      iexact Hs
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  · have h1 : 1 ≤ t.val := by omega
    by_cases h2 : t.val < 15
    · rw [ceAt_next V c t h1, labAt_next V c t h1, predAt_next V c t h1, tpAt_next V c t h1]
      simp only [before0_1 V c t h1, before0_2 V c t h1, before0_3 V c t h1, before0_4 V c t h1]
      rw [if_neg h0, if_neg (show ¬t.val + 1 = 0 by omega)]
      rw [Ring.AtK2_here _ _ _ _ _ t.val h1 (by omega), Ring.AtK2_next _ _ _ _ _ t.val h1 (by omega)]
      iintro ⟨⟨Hg, ⟨-, Ha, Hb⟩, Hs⟩, ⟨%W, -, HW⟩, ⟨%d0, H0⟩, ⟨%d1, H1⟩, ⟨%d2, H2⟩, ⟨%d3, H3⟩, ⟨%d4, H4⟩⟩
      iapply (run_mid c t (stg0 t) (stg0_whole t) (stg1 t) (stg1_whole t) (stg2 t) (stg2_whole t) (stg3 t) (stg3_whole t) (stg4 t) (stg4_whole t) (fun h => h0 ((isFirst_iff t).mp h)) ((hasNext_iff t).mpr h2) (fun h => h0 ((doesSet_iff t).mp h)) ((doesAdd_iff t).mpr h1)
        (iblk0 V c 0 t) (ceAt V c (t.val - 1)) (labAt V c (t.val - 1)) (predAt V c (t.val - 1)) (tpAt V c (t.val - 1)) (V c main_v2) W _)
      isplitl [H0]; · iexact H0
      isplitl [H1]; · iexact H1
      isplitl [H2]; · iexact H2
      isplitl [H3]; · iexact H3
      isplitl [H4]; · iexact H4
      isplitl [Ha]; · iexact Ha
      isplitl [Hb]; · iexact Hb
      isplitl [HW]; · iexact HW
      iintro ⟨H0, H1, H2, H3, H4, Hf', Hk', ⟨%W', HW'⟩⟩
      isplitl [Hg Hs Hf' Hk']
      · isplitl [Hg]; · iexact Hg
        isplitl [Hf' Hk']
        · iapply (Ring.with_homes (Idealize.SL.BI.Entails.refl _))
          isplitl [Hf']; · iexact Hf'
          iexact Hk'
        iexact Hs
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      iexact H4
    · rw [ceAt_next V c t h1, labAt_next V c t h1, predAt_next V c t h1, tpAt_next V c t h1]
      simp only [before0_1 V c t h1, before0_2 V c t h1, before0_3 V c t h1, before0_4 V c t h1]
      rw [if_neg h0, if_neg (show ¬t.val + 1 = 0 by omega)]
      rw [Ring.AtK2_here_last _ _ _ _ _ t.val h1 (by omega), Ring.AtK2_next_last _ _ _ _ _ t.val h1 (by omega)]
      iintro ⟨⟨Hg, ⟨-, Ha, Hb⟩, Hs⟩, ⟨%W, -, HW⟩, ⟨%d0, H0⟩, ⟨%d1, H1⟩, ⟨%d2, H2⟩, ⟨%d3, H3⟩, ⟨%d4, H4⟩⟩
      iapply (run_last c t (stg0 t) (stg0_whole t) (stg1 t) (stg1_whole t) (stg2 t) (stg2_whole t) (stg3 t) (stg3_whole t) (stg4 t) (stg4_whole t) (fun h => h0 ((isFirst_iff t).mp h)) (fun h => h2 ((hasNext_iff t).mp h)) (fun h => h0 ((doesSet_iff t).mp h)) ((doesAdd_iff t).mpr h1)
        (iblk0 V c 0 t) (ceAt V c (t.val - 1)) (labAt V c (t.val - 1)) (predAt V c (t.val - 1)) (tpAt V c (t.val - 1)) (V c main_v2) W _)
      isplitl [H0]; · iexact H0
      isplitl [H1]; · iexact H1
      isplitl [H2]; · iexact H2
      isplitl [H3]; · iexact H3
      isplitl [H4]; · iexact H4
      isplitl [Ha]; · iexact Ha
      isplitl [HW]; · iexact HW
      iintro ⟨H0, H1, H2, H3, H4, Hk', ⟨%W', HW'⟩⟩
      isplitl [Hg Hs Hb Hk']
      · isplitl [Hg]; · iexact Hg
        isplitl [Hb Hk']
        · iapply (Ring.with_homes (Idealize.SL.BI.Entails.refl _))
          isplitl [Hb]; · iexact Hb
          iexact Hk'
        iexact Hs
      isplitl [HW']
      · iexists W'; isplitr; · ipureintro; exact fun _ _ => Or.inl trivial
        iexact HW'
      isplitl [H0]; · iexact H0
      isplitl [H1]; · iexact H1
      isplitl [H2]; · iexact H2
      isplitl [H3]; · iexact H3
      iexact H4

theorem defs₀_row0 (t : Fin cfg0.N) : defs₀ (F := F) .tc cfg0.body (cfg0.bodyArgs t (cfg0.slots t)) = bodyAt0 t := by
  unfold defs₀; rw [Defs.onTc_tc]

/-- The body obligation of the first pipeline. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Region

end Cert.KernelIdeal.Pf

end
-- ==== Proof.Region1.lean ====
/- The second kernel's pipeline: one point, four tiles in, one number out. -/
module

public import proofs.«01_k».proof.Proof.Run0

@[expose] public section

set_option maxRecDepth 16384

noncomputable section

namespace Cert.KernelIdeal.Pf

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The number the second kernel computes from the four tiles. -/
def combine (ce lab pred tp : Vec F S8x128 .f32) : Vec F S1x1 .f32 :=
  k1_pay1 (k1_pay4 tp) (k1_pay5 lab tp) (k1_pay6 pred tp) (k1_pay7 lab pred tp) (k1_pay8 ce) (k1_pay9 lab pred tp) (k1_pay10 pred tp)

theorem combine_of_eq {l0 l1 l2 l3 x0 x1 x2 x3 : Vec F S8x128 .f32} (h0 : l0 = x0) (h1 : l1 = x1) (h2 : l2 = x2) (h3 : l3 = x3) :
    k1_pay1 (k1_pay4 l3) (k1_pay5 l1 l3) (k1_pay6 l2 l3) (k1_pay7 l1 l2 l3) (k1_pay8 l0) (k1_pay9 l1 l2 l3) (k1_pay10 l2 l3)
      = combine x0 x1 x2 x3 := by rw [h0, h1, h2, h3]; rfl

set_option maxHeartbeats 1000000 in
/-- The body on whole staging buffers: the inputs stay, the output holds `combine` of them. -/
theorem run_combine (c : Dev nD)
    (arg0 : Memref sig .tc .vmem S8x128 .f32) (harg0 : arg0.IsWhole)
    (arg1 : Memref sig .tc .vmem S8x128 .f32) (harg1 : arg1.IsWhole)
    (arg2 : Memref sig .tc .vmem S8x128 .f32) (harg2 : arg2.IsWhole)
    (arg3 : Memref sig .tc .vmem S8x128 .f32) (harg3 : arg3.IsWhole)
    (arg4 : Memref sig .tc .vmem S1x1 .f32) (harg4 : arg4.IsWhole)
    (x0 x1 x2 x3 : Vec F S8x128 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (combine x0 x1 x2 x3)) -∗ K ⟨⟩))
      ⊢ wp frame (wpE (defs₀ (F := F)) Variants.none c none) Set.univ (cc1__combine_kernel arg0 harg0 arg1 harg1 arg2 harg2 arg3 harg3 arg4 harg4) K := by
  simp only [cc1__combine_kernel_eq_skeleton]; unfold cc1__combine_kernel_skel
  simp only [k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := harg0.eq_unread hf0
  obtain rfl := harg1.eq_unread hf1
  obtain rfl := harg2.eq_unread hf2
  obtain rfl := harg3.eq_unread hf3
  sl_exec
  sl_step
  iapply Hk
  isplitl [H0]
  · iexists _; isplitr; · ipureintro; exact harg0.read_unread _
    iexact H0
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  iexists _; isplitr; swap; · iexact H4
  ipureintro
  exact (View.read_writes_full _ _ _ _ _).trans
    (combine_of_eq (whole_load harg0 _ x0) (whole_load harg1 _ x1) (whole_load harg2 _ x2) (whole_load harg3 _ x3))

section Region
variable (V : (c : Dev nD) → (b : Ref sig .tc) → Buf (Elt F) ((c : Thread nD τ).loc b))

/-- Window `w`'s block, read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The pipeline's data: the four tiles stay, the output is their combination. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => combine (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = combine (iblk1 V c 0 t) (iblk1 V c 1 t) (iblk1 V c 2 t) (iblk1 V c 3 t) := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d)))
def bodyPost1 (c : Dev nD) (t : Fin cfg1.N) : sProp 𝕄 :=
  iprop((dat1 V c).Φ t.succ ∗ (dat1 V c).owesAt () t.succ
    ∗ owns (c : Thread nD τ) (win1_0.stage (cfg1.slots t 0)) fullShare ((dat1 V c).after 0 t)
    ∗ owns (c : Thread nD τ) (win1_1.stage (cfg1.slots t 1)) fullShare ((dat1 V c).after 1 t)
    ∗ owns (c : Thread nD τ) (win1_2.stage (cfg1.slots t 2)) fullShare ((dat1 V c).after 2 t)
    ∗ owns (c : Thread nD τ) (win1_3.stage (cfg1.slots t 3)) fullShare ((dat1 V c).after 3 t)
    ∗ owns (c : Thread nD τ) (win1_4.stage (cfg1.slots t 4)) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (run_combine c _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row1 (t : Fin cfg1.N) : defs₀ (F := F) .tc cfg1.body (cfg1.bodyArgs t (cfg1.slots t)) = bodyAt1 t := by
  unfold defs₀; rw [Defs.onTc_tc]

/-- The body obligation of the second pipeline. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Region

end Cert.KernelIdeal.Pf

end
-- ==== Proof.RunMain.lean ====
/- The whole program as four segments (host, first kernel, second kernel, host) and its launch: every run ends, nothing
   faults, the arguments are as they were, every counter is zero, and the result is what the last boundary's contents say. -/
module

public import proofs.«01_k».proof.Proof.Region0
public import proofs.«01_k».proof.Proof.Region1
public import Idealize.ShloMosaic.Lib.Pipeline.RegionsLoop
public import Idealize.ShloMosaic.Lib.Pipeline.FrameSuffix

@[expose] public section

set_option maxRecDepth 16384

noncomputable section

namespace Cert.KernelIdeal.Pf

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Main
variable (m : (ℓ : Loc nD τ sig) → Buf (Elt F) ℓ) (ρ : Dev nD → PrngReg)

/-! ## What every buffer holds at each boundary -/

/-- At the launch. -/
abbrev W0 : Dev nD → Valuation τ sig (Elt F) := fun c b => m ((c : Dev nD), b)
/-- When the first kernel is entered. -/
abbrev W1 : Dev nD → Valuation τ sig (Elt F) := fun c => StableHlo.after hostOps0 (W0 m c)
abbrev at1 : (c : Dev nD) → (b : Ref sig .tc) → Buf (Elt F) ((c : Thread nD τ).loc b) := fun c b => W1 m c b
/-- When kernel 0 is left: its arrays hold what the pipeline wrote, everything else is as it was. -/
def W2 (c : Dev nD) : Valuation τ sig (Elt F) := Pipeline.withArrays spec0 c (W1 m c) fun w => (dat0 (at1 m) c).arrAt w cfg0.N
abbrev at2 : (c : Dev nD) → (b : Ref sig .tc) → Buf (Elt F) ((c : Thread nD τ).loc b) := fun c b => W2 m c b
theorem W2_arr (c : Dev nD) (w : Fin cfg0.W) :
    W2 m c (Proc.devRef .tc (Pipeline.arrRef spec0 w)) = (dat0 (at1 m) c).arrAt w cfg0.N := by
  unfold W2; exact Pipeline.withArrays_arr spec0 launch0.win.arr_inj c _ _ w
theorem W2_other (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- When kernel 1 is left: its arrays hold what the pipeline wrote, everything else is as it was. -/
def W3 (c : Dev nD) : Valuation τ sig (Elt F) := Pipeline.withArrays spec1 c (W2 m c) fun w => (dat1 (at2 m) c).arrAt w cfg1.N
abbrev at3 : (c : Dev nD) → (b : Ref sig .tc) → Buf (Elt F) ((c : Thread nD τ).loc b) := fun c b => W3 m c b
theorem W3_arr (c : Dev nD) (w : Fin cfg1.W) :
    W3 m c (Proc.devRef .tc (Pipeline.arrRef spec1 w)) = (dat1 (at2 m) c).arrAt w cfg1.N := by
  unfold W3; exact Pipeline.withArrays_arr spec1 launch1.win.arr_inj c _ _ w
theorem W3_other (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- At the end. -/
abbrev W4 : Dev nD → Valuation τ sig (Elt F) := fun c => StableHlo.after hostOps2 (W3 m c)

/-- A buffer that no host operation writes and no kernel works on is at the end what it was at the launch. -/
theorem W4_kept (c : Dev nD) (b : Ref sig .tc) (h0 : b ∉ hostOps0_W) (h1 : ∀ w, Pipeline.arrRef spec0 w ≠ b)
    (h2 : ∀ w, Pipeline.arrRef spec1 w ≠ b) (h3 : b ∉ hostOps2_W) : W4 m c (Proc.devRef .tc b) = m ((c : Thread nD τ).loc b) :=
  (StableHlo.after_of_writes_sub hostOps2 _ hostOps2_writes h3).trans <| (W3_other m c b h2).trans <|
    (W2_other m c b h1).trans (StableHlo.after_of_writes_sub hostOps0 _ hostOps0_writes h0)

/-! ## The two pipelines' data, and the thread's state between segments -/

def pdats : (p : Fin 2) → (c : Dev nD) → Dat τ (Elt F) Unit ℕ (Pipeline.UD sig nD τ) ℕ (Pipeline.pin (pcfgs (F := F)) adm p) c
  | ⟨0, _⟩ => fun c => dat0 (at1 m) c
  | ⟨1, _⟩ => fun c => dat1 (at2 m) c
/-- Nobody owes anybody a signal. -/
abbrev noLevels : GSem nD τ sig → Finset Unit := fun _ => ∅
abbrev level0 : GSem nD τ sig → Unit → ℕ := fun _ _ => 0
/-- What every boundary has besides the buffers. -/
abbrev Rest (c : Dev nD) : sProp 𝕄 := iprop((∃ r, prngReg c r) ∗ ∃ W, owes (c : Thread nD τ) (0 : CellTallies nD τ sig Unit) W)
/-- The boundary at which the buffers hold `W`. -/
abbrev Bnd (W : Dev nD → Valuation τ sig (Elt F)) (c : Dev nD) : sProp 𝕄 :=
  iprop(StableHlo.held (c : Thread nD τ) (Pipeline.ucRefs τ sig) (W c) ∗ Rest c)
/-- A stretch of host operations as a segment. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ Variants.none noLevels level0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

/-- The large array the first kernel copies from by itself. -/
abbrev logitsHeld (c : Dev nD) : sProp 𝕄 := heldAt c logM (at1 m c main_v2)
/-- The buffers the first kernel does not touch. -/
abbrev idle0 (c : Dev nD) : sProp 𝕄 :=
  iprop((((c : Thread nD τ).loc main_arg0) ↦{fullShare} at1 m c main_arg0) ∗ (((c : Thread nD τ).loc main_arg1) ↦{fullShare} at1 m c main_arg1)
    ∗ (((c : Thread nD τ).loc main_v0) ↦{fullShare} at1 m c main_v0) ∗ (((c : Thread nD τ).loc main_v1) ↦{fullShare} at1 m c main_v1)
    ∗ (((c : Thread nD τ).loc main_v5) ↦{fullShare} at1 m c main_v5) ∗ (((c : Thread nD τ).loc main_v6) ↦{fullShare} at1 m c main_v6))
theorem idle0_out (c : Dev nD) :
    Pipeline.unscopedRest (Ix := Unit) (Name := ℕ) (U := Pipeline.UD sig nD τ) (Lvl := ℕ) spec0 c (at1 m c) ⊢ iprop(logitsHeld m c ∗ idle0 m c) := by
  rw [unscopedRest0_eq]
  iintro ⟨H0, H1, H2, H3, H4, H5, H6⟩
  isplitl [H4]; · iexact H4
  isplitl [H0]; · iexact H0
  isplitl [H1]; · iexact H1
  isplitl [H2]; · iexact H2
  isplitl [H3]; · iexact H3
  isplitl [H5]; · iexact H5
  iexact H6
theorem idle0_in (c : Dev nD) :
    iprop(logitsHeld m c ∗ idle0 m c) ⊢ Pipeline.unscopedRest (Ix := Unit) (Name := ℕ) (U := Pipeline.UD sig nD τ) (Lvl := ℕ) spec0 c (at1 m c) := by
  rw [unscopedRest0_eq]
  iintro ⟨H4, H0, H1, H2, H3, H5, H6⟩
  isplitl [H0]; · iexact H0
  isplitl [H1]; · iexact H1
  isplitl [H2]; · iexact H2
  isplitl [H3]; · iexact H3
  isplitl [H4]; · iexact H4
  isplitl [H5]; · iexact H5
  iexact H6

/-- The two copy semaphores at zero. -/
abbrev ringIdle (c : Dev nD) : sProp 𝕄 := iprop(semVal ((c : Thread nD τ), SemLoc.dma 6) 0 ∗ semVal ((c : Thread nD τ), SemLoc.dma 7) 0)
abbrev scoped0 (c : Dev nD) : sProp 𝕄 := Pipeline.scopedRest (Ix := Unit) (Name := ℕ) (U := Pipeline.UD sig nD τ) (Lvl := ℕ) (Val := Elt F) spec0 c

/-- The first kernel's invariant is set up from its scratch buffer, its two semaphores and the array. -/
theorem inv0_enter (c : Dev nD) :
    iprop(((∃ r, prngReg c r) ∗ ringIdle c ∗ logitsHeld m c) ∗ scoped0 c) ⊢ inv0 (at1 m) c 0 := by
  have h := ring_enter (F := F) c (at1 m c main_v2)
  simp only [scrM, owns_whole] at h
  unfold scoped0; rw [scopedRest0_eq]; unfold inv0 otherStages
  iintro ⟨⟨Hp, Hs, HW⟩, Hscr, Hrest⟩
  isplitl [Hp]; · iexact Hp
  isplitl [Hscr Hs HW]
  · iapply h
    isplitl [Hscr]; · iexact Hscr
    isplitl [Hs]; · iexact Hs
    iexact HW
  iexact Hrest
/-- And it is taken apart again after the last point. -/
theorem inv0_leave (c : Dev nD) :
    inv0 (at1 m) c 16 ⊢ iprop(((∃ r, prngReg c r) ∗ logitsHeld m c) ∗ ringIdle c ∗ scoped0 c) := by
  have h := ring_leave (F := F) c (at1 m c main_v2)
  simp only [scrM, owns_whole] at h
  unfold scoped0; rw [scopedRest0_eq]; unfold inv0 otherStages
  iintro ⟨Hp, Hr, Hrest⟩
  ihave H := h $$ Hr
  icases H with ⟨Hscr, Hs, HW⟩
  isplitl [Hp HW]
  · isplitl [Hp]; · iexact Hp
    iexact HW
  isplitl [Hs]; · iexact Hs
  isplitl [Hscr]; · iexact Hscr
  iexact Hrest

/-! ## The segments -/

set_option backward.isDefEq.respectTransparency.types false in
/-- Kernel 0 as a segment. -/
def kernel0 : Pipeline.RegionSeg (pcfgs (F := F)) adm (pdats m) () defs₀ Variants.none noLevels level0 0 where
  win := launch0.win.to₀
  block_pos := launch0.block_pos
  stage_whole := launch0.stage_whole
  K := Fin 2
  osem := ringSem
  ho := ringSem_own
  hbody c := (body_obligation0 (at1 m) c).loose
  hwaits := Pipeline.hwaits_of_owed_zero _ _ _ _ noLevels level0 0 fun _ _ => rfl
  pre c := Bnd (W1 m) c
  post c := Bnd (W2 m) c
  X c := iprop((∃ r, prngReg c r) ∗ ringIdle c ∗ logitsHeld m c)
  Y c := iprop((∃ r, prngReg c r) ∗ logitsHeld m c)
  Z c := idle0 m c
  hentry c := by
    rw [ringSems_eq]
    have hsplit := Pipeline.arrays_of_unscopedBufs (p := 0) (pcfgs (F := F)) adm (pdats m) launch0.win launch0.arr_whole c
      ((pdats m 0 c).share_full fun _ => rfl) (at1 m c) (A_eq0 (at1 m) c)
    rw [Pipeline.unscopedBufs_held] at hsplit
    iintro ⟨⟨Hub, Hp, HO⟩, Hs, -⟩
    ihave H := hsplit $$ Hub
    icases H with ⟨Ha, Hrest⟩
    ihave Hr := (idle0_out m c) $$ Hrest
    icases Hr with ⟨HW, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hs HW]
    · isplitl [Hp]; · iexact Hp
      isplitl [Hs]; · iexact Hs
      iexact HW
    iexact Hrest
  hin c := by
    rw [show (pdats m 0 c).Φ 0 = inv0 (at1 m) c 0 from rfl]
    iintro ⟨HX, -, Hr⟩
    iapply (inv0_enter m c)
    isplitl [HX]; · iexact HX
    iexact Hr
  hout c := by
    rw [ringSems_eq, show (pdats m 0 c).Φ (Fin.last _) = inv0 (at1 m) c 16 from rfl]
    exact inv0_leave m c
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (at1 m c) (at2 m c) ((pdats m 0 c).arrAt · cfg0.N) (fun w => (W2_arr m c w).symm)
      (fun b hb => W2_other m c b fun w e => hb (Finset.mem_image.mpr ⟨w, Finset.mem_univ _, e⟩))
    rw [Pipeline.unscopedBufs_held] at hjoin
    iintro ⟨Ha, HO, ⟨Hp, HW⟩, Hrest⟩
    ihave Hrest := (idle0_in m c) $$ [HW Hrest]
    · isplitl [HW]; · iexact HW
      iexact Hrest
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

set_option backward.isDefEq.respectTransparency.types false in
/-- Kernel 1 as a segment. -/
def kernel1 : Pipeline.RegionSeg (pcfgs (F := F)) adm (pdats m) () defs₀ Variants.none noLevels level0 1 where
  win := launch1.win.to₀
  block_pos := launch1.block_pos
  stage_whole := launch1.stage_whole
  K := PEmpty
  osem k := k.elim
  ho := Pipeline.OwnSemFacts.none _
  hbody c := (body_obligation1 (at2 m) c).loose
  hwaits := Pipeline.hwaits_of_owed_zero _ _ _ _ noLevels level0 1 fun _ _ => rfl
  pre c := Bnd (W2 m) c
  post c := Bnd (W3 m) c
  X c := iprop(∃ r, prngReg c r)
  Y c := iprop(∃ r, prngReg c r)
  Z c := Pipeline.unscopedRest (Ix := Unit) (Name := ℕ) (U := Pipeline.UD sig nD τ) (Lvl := ℕ) spec1 c (at2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (at2 m c) (A_eq1 (at2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (at2 m c) (at3 m c) ((pdats m 1 c).arrAt · cfg1.N) (fun w => (W3_arr m c w).symm)
      (fun b hb => W3_other m c b fun w e => hb (Finset.mem_image.mpr ⟨w, Finset.mem_univ _, e⟩))
    rw [Pipeline.unscopedBufs_held] at hjoin
    iintro ⟨Ha, HO, Hp, Hrest⟩
    imodintro
    isplitl [Ha Hrest]
    · iapply hjoin; isplitl [Ha] <;> iassumption
    isplitl [Hp]; · iexact Hp
    unfold Pipeline.Dat.owesAt Pipeline.owesWithin
    icases HO with ⟨%W, -, HO⟩; iexists W; iexact HO

/-- The program's four segments. -/
abbrev parts : List (Pipeline.Seg (pcfgs (F := F)) adm (pdats m) () defs₀ Variants.none noLevels level0) :=
  [.host (hostSeg hostOps0 hostOps0_sub hostOps0_fresh (W0 m)), .region (kernel0 m), .region (kernel1 m),
    .host (hostSeg hostOps2 hostOps2_sub hostOps2_fresh (W3 m))]
theorem main_parts (c : Dev nD) : main (F := F) c = Pipeline.Seg.run (parts m) := (main_chain c).trans (by chain_rfl)

theorem held_ref (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- THE RUN: every execution ends with each unscoped buffer at `W4` and every counter at zero. -/
theorem run_all : θ_run defs (onTc (τ := τ) (main (F := F))) ⟨m, fun _ => 0, ρ⟩ (fun r =>
    (∀ c : Dev nD, ∀ b ∈ Pipeline.ucRefs τ sig, r.2.mem (((c : Thread nD τ)).1, b) = W4 m c b) ∧ r.2.sem = fun _ => 0) :=
  Pipeline.θ_run_regions_kit_sems (pcfgs (F := F)) adm (pdats m) () cellOf_inj embL defs₀ Variants.none noLevels level0 m ρ main (parts m)
    (fun c Q => by rw [main_parts m c])
    (by simp only [parts, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := Bnd (W0 m))
    (Tₙ := fun c => iprop(StableHlo.held (c : Thread nD τ) (Pipeline.ucRefs τ sig) (W4 m c) ∗ ∃ r, prngReg c r))
    (hch := ⟨fun _ => .rfl, fun _ => .rfl, fun _ => .rfl, fun _ => .rfl, fun c => by
      dsimp only [Pipeline.Seg.post, hostSeg, Pipeline.HostSeg.ofOps]
      iintro ⟨Hh, Hp, HO⟩
      isplitl [Hh Hp]
      · isplitl [Hh]; · iexact Hh
        iexact Hp
      iexact HO⟩)
    (hinit := by
      refine Pipeline.initEach noLevels level0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h hz => ⟨h, funext fun g => hz g (.inr (regions_no_unscoped g.2))⟩)

theorem W4_arg0 (c : Dev nD) : W4 m c (Proc.devRef .tc main_arg0) = m ((c : Thread nD τ).loc main_arg0) :=
  W4_kept m c _ (by decide) (by decide) (by decide) (by decide)
theorem W4_arg1 (c : Dev nD) : W4 m c (Proc.devRef .tc main_arg1) = m ((c : Thread nD τ).loc main_arg1) :=
  W4_kept m c _ (by decide) (by decide) (by decide) (by decide)

/-- The run with the result named: the arguments are kept. -/
theorem run_result : θ_run defs (onTc (τ := τ) (main (F := F))) ⟨m, fun _ => 0, ρ⟩ (fun r =>
    ∀ c : Dev nD, r.2.mem ((c.tc : Thread nD τ).loc main_v6) = W4 m c main_v6
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨h.1 c _ (held_ref main_v6 (by decide)),
    (h.1 c _ (held_ref main_arg0 (by decide))).trans (W4_arg0 m c), (h.1 c _ (held_ref main_arg1 (by decide))).trans (W4_arg1 m c)⟩) (run_all m ρ)

/-- The frame: the arguments end as launched and every counter is zero. -/
theorem frame : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c _ (held_ref main_arg0 (by decide))).trans (W4_arg0 m c),
    (h.1 c _ (held_ref main_arg1 (by decide))).trans (W4_arg1 m c)⟩, h.2⟩) (run_all m ρ)
end Main

end Cert.KernelIdeal.Pf

end
-- ==== Proof.Same.lean ====
/- The program as compiled and the program as idealised are one text: the run proved of the one is the run of the other. -/
module

public import proofs.«01_k».proof.Proof.RunMain
public import proofs.«01_k».proof.Proof.Gen.Kernel.Launch

@[expose] public section

set_option maxRecDepth 100000

noncomputable section

namespace Cert.Proof

open Idealize.ShloMosaic Idealize.ShloMosaic.TcCoe Idealize.SL.Sem

variable {F : FTy → Type} [FloatOps F]

attribute [local instance] Cert.Kernel.Gen.facts Cert.KernelIdeal.Gen.facts

theorem same_main : Cert.Kernel.main (F := F) = Cert.KernelIdeal.main (F := F) := rfl
theorem same_cfgs : (Cert.Kernel.pcfgs (F := F)) = Cert.KernelIdeal.pcfgs (F := F) := by
  funext p; fin_cases p <;> rfl
theorem same_defs₀ : (Cert.Kernel.defs₀ (F := F)) = Cert.KernelIdeal.defs₀ (F := F) := by
  unfold Cert.Kernel.defs₀ Cert.KernelIdeal.defs₀
  refine congrArg Defs.onTc ?_
  funext l a
  match l, a with
  | 0, (t, s) => rfl
  | 1, (t, s) => rfl
theorem same_defs : (Cert.Kernel.defs (F := F)) = Cert.KernelIdeal.defs (F := F) := by
  unfold Cert.Kernel.defs Cert.KernelIdeal.defs
  rw [same_defs₀]; rfl

/-- The frame of the program as compiled. -/
theorem frame_compiled (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r =>
      (∀ c : Dev Cert.Kernel.nD, r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0) := by
  rw [same_main, same_defs]
  exact Cert.KernelIdeal.Pf.frame m ρ

end Cert.Proof

end
-- ==== Proof.RefOps.lean ====
/- The reference is a straight line of host operations. Here it is cut into ten pieces, one per quantity, and run. -/
module

public import proofs.«01_k».proof.Proof.Gen.ReferenceIdeal
public import Idealize.ShloMosaic.Lib.Claim
public import Idealize.ShloMosaic.Lib.Pipeline.Regions
public import Idealize.ShloMosaic.Lib.Quiescent

@[expose] public section

set_option maxRecDepth 16384

noncomputable section

namespace Cert.ReferenceIdeal.Pf

open Cert.ReferenceIdeal.Gen
open Idealize.ShloMosaic Idealize.ShloMosaic.TcCoe Idealize.SL.Sem Idealize.ShloMosaic.Tactic

variable {F : FTy → Type} [FloatOps F]

/-- The cost table: 1 where class 0 is taken for class 1, else 0. -/
abbrev costOps : List (HloOp τ sig (Elt F)) :=
  [ StableHlo.nullary main_v0 (iotaInDim S2 32 0),
    StableHlo.unary main_v0 main_v1 (broadcastInDim S2x1 ![0] bcast_S2_S2x1_0 : (⟨S2, .i32⟩ : BufTy).Contents (Elt F) → (⟨S2x1, .i32⟩ : BufTy).Contents (Elt F)),
    StableHlo.nullary main_v2 (iotaInDim S2 32 0),
    StableHlo.unary main_v2 main_v3 (broadcastInDim S1x2 ![1] bcast_S2_S1x2_1 : (⟨S2, .i32⟩ : BufTy).Contents (Elt F) → (⟨S1x2, .i32⟩ : BufTy).Contents (Elt F)),
    StableHlo.unary main_v3 main_v4 (broadcastInDim S2x2 ![0, 1] bcast_S1x2_S2x2_0_1 : (⟨S1x2, .i32⟩ : BufTy).Contents (Elt F) → (⟨S2x2, .i32⟩ : BufTy).Contents (Elt F)),
    StableHlo.unary main_v1 main_v5 (broadcastInDim S2x2 ![0, 1] bcast_S2x1_S2x2_0_1 : (⟨S2x1, .i32⟩ : BufTy).Contents (Elt F) → (⟨S2x2, .i32⟩ : BufTy).Contents (Elt F)),
    StableHlo.binary main_v4 main_v5 main_v6 (cmpi .sgt : (⟨S2x2, .i32⟩ : BufTy).Contents (Elt F) → (⟨S2x2, .i32⟩ : BufTy).Contents (Elt F) → (⟨S2x2, .i1⟩ : BufTy).Contents (Elt F)),
    StableHlo.unary main_v3 main_v7 (broadcastInDim S2x2 ![0, 1] bcast_S1x2_S2x2_0_1 : (⟨S1x2, .i32⟩ : BufTy).Contents (Elt F) → (⟨S2x2, .i32⟩ : BufTy).Contents (Elt F)),
    StableHlo.unary main_v1 main_v8 (broadcastInDim S2x2 ![0, 1] bcast_S2x1_S2x2_0_1 : (⟨S2x1, .i32⟩ : BufTy).Contents (Elt F) → (⟨S2x2, .i32⟩ : BufTy).Contents (Elt F)),
    StableHlo.binary main_v7 main_v8 main_v9 (subi : (⟨S2x2, .i32⟩ : BufTy).Contents (Elt F) → (⟨S2x2, .i32⟩ : BufTy).Contents (Elt F) → (⟨S2x2, .i32⟩ : BufTy).Contents (Elt F)),
    StableHlo.unary main_v9 main_v10 (sitofp .f32 : (⟨S2x2, .i32⟩ : BufTy).Contents (Elt F) → (⟨S2x2, .f32⟩ : BufTy).Contents (Elt F)),
    StableHlo.binary main_v10 main_v10 main_v11 (mulf : (⟨S2x2, .f32⟩ : BufTy).Contents (Elt F) → (⟨S2x2, .f32⟩ : BufTy).Contents (Elt F) → (⟨S2x2, .f32⟩ : BufTy).Contents (Elt F)),
    StableHlo.nullary main_cst (constant S_ .f32 0x00000000#32),
    StableHlo.unary main_cst main_call0_v0 (id : (⟨S_, .f32⟩ : BufTy).Contents (Elt F) → (⟨S_, .f32⟩ : BufTy).Contents (Elt F)),
    StableHlo.unary main_call0_v0 main_call0_v1 ((broadcastInDim S2x2 ![] bcast_S_S2x2) : (⟨S_, .f32⟩ : BufTy).Contents (Elt F) → (⟨S2x2, .f32⟩ : BufTy).Contents (Elt F)),
    StableHlo.ternary main_v6 main_v11 main_call0_v1 main_v12 (select : (⟨S2x2, .i1⟩ : BufTy).Contents (Elt F) → (⟨S2x2, .f32⟩ : BufTy).Contents (Elt F) → (⟨S2x2, .f32⟩ : BufTy).Contents (Elt F) → (⟨S2x2, .f32⟩ : BufTy).Contents (Elt F)) ]
/-- The buffers it writes. -/
abbrev costOps_W : List (Ref sig .tc) := [main_v0, main_v1, main_v2, main_v3, main_v4, main_v5, main_v6, main_v7, main_v8, main_v9, main_v10, main_v11, main_cst, main_call0_v0, main_call0_v1, main_v12]
/-- The log-softmax of the logits. -/
abbrev softOps : List (HloOp τ sig (Elt F)) :=
  [ StableHlo.nullary main_call1_cst (constant S_ .f32 0xFF800000#32),
    StableHlo.binary main_arg0 main_call1_cst main_call1_v0 ((fun x v => Host.reduce FloatOps.maximumf x v reducesTo_S16777216x2_S16777216_d1 h_S_) : (⟨S16777216x2, .f32⟩ : BufTy).Contents (Elt F) → (⟨S_, .f32⟩ : BufTy).Contents (Elt F) → (⟨S16777216, .f32⟩ : BufTy).Contents (Elt F)),
    StableHlo.nullary main_call1_cst_0 (constant S_ .f32 0xFF800000#32),
    StableHlo.unary main_call1_cst_0 main_call1_v1 ((broadcastInDim S16777216 ![] bcast_S_S16777216) : (⟨S_, .f32⟩ : BufTy).Contents (Elt F) → (⟨S16777216, .f32⟩ : BufTy).Contents (Elt F)),
    StableHlo.binary main_call1_v1 main_call1_v0 main_call1_v2 (maximumf : (⟨S16777216, .f32⟩ : BufTy).Contents (Elt F) → (⟨S16777216, .f32⟩ : BufTy).Contents (Elt F) → (⟨S16777216, .f32⟩ : BufTy).Contents (Elt F)),
    StableHlo.unary main_call1_v2 main_call1_v3 ((broadcastInDim S16777216x1 ![0] bcast_S16777216_S16777216x1_0) : (⟨S16777216, .f32⟩ : BufTy).Contents (Elt F) → (⟨S16777216x1, .f32⟩ : BufTy).Contents (Elt F)),
    StableHlo.unary main_call1_v3 main_call1_v4 ((broadcastInDim S16777216x2 ![0, 1] bcast_S16777216x1_S16777216x2_0_1) : (⟨S16777216x1, .f32⟩ : BufTy).Contents (Elt F) → (⟨S16777216x2, .f32⟩ : BufTy).Contents (Elt F)),
    StableHlo.binary main_arg0 main_call1_v4 main_call1_v5 (subf : (⟨S16777216x2, .f32⟩ : BufTy).Contents (Elt F) → (⟨S16777216x2, .f32⟩ : BufTy).Contents (Elt F) → (⟨S16777216x2, .f32⟩ : BufTy).Contents (Elt F)),
    StableHlo.unary main_call1_v5 main_call1_v6 (Host.exp : (⟨S16777216x2, .f32⟩ : BufTy).Contents (Elt F) → (⟨S16777216x2, .f32⟩ : BufTy).Contents (Elt F)),
    StableHlo.nullary main_call1_cst_1 (constant S_ .f32 0x00000000#32),
    StableHlo.binary main_call1_v6 main_call1_cst_1 main_call1_v7 ((fun x v => Host.reduceAdd x v reducesTo_S16777216x2_S16777216_d1 h_S_) : (⟨S16777216x2, .f32⟩ : BufTy).Contents (Elt F) → (⟨S_, .f32⟩ : BufTy).Contents (Elt F) → (⟨S16777216, .f32⟩ : BufTy).Contents (Elt F)),
    StableHlo.unary main_call1_v7 main_call1_v8 ((broadcastInDim S16777216x1 ![0] bcast_S16777216_S16777216x1_0) : (⟨S16777216, .f32⟩ : BufTy).Contents (Elt F) → (⟨S16777216x1, .f32⟩ : BufTy).Contents (Elt F)),
    StableHlo.unary main_call1_v8 main_call1_v9 (Host.log : (⟨S16777216x1, .f32⟩ : BufTy).Contents (Elt F) → (⟨S16777216x1, .f32⟩ : BufTy).Contents (Elt F)),
    StableHlo.unary main_call1_v9 main_call1_v10 ((broadcastInDim S16777216x2 ![0, 1] bcast_S16777216x1_S16777216x2_0_1) : (⟨S16777216x1, .f32⟩ : BufTy).Contents (Elt F) → (⟨S16777216x2, .f32⟩ : BufTy).Contents (Elt F)),
    StableHlo.binary main_call1_v5 main_call1_v10 main_v13 (subf : (⟨S16777216x2, .f32⟩ : BufTy).Contents (Elt F) → (⟨S16777216x2, .f32⟩ : BufTy).Contents (Elt F) → (⟨S16777216x2, .f32⟩ : BufTy).Contents (Elt F)) ]
/-- The buffers it writes. -/
abbrev softOps_W : List (Ref sig .tc) := [main_call1_cst, main_call1_v0, main_call1_cst_0, main_call1_v1, main_call1_v2, main_call1_v3, main_call1_v4, main_call1_v5, main_call1_v6, main_call1_cst_1, main_call1_v7, main_call1_v8, main_call1_v9, main_call1_v10, main_v13]
/-- The entry of each row that its label names. -/
abbrev takeOps : List (HloOp τ sig (Elt F)) :=
  [ StableHlo.unary main_arg1 main_v14 (broadcastInDim S16777216x1 ![0] bcast_S16777216_S16777216x1_0 : (⟨S16777216, .i32⟩ : BufTy).Contents (Elt F) → (⟨S16777216x1, .i32⟩ : BufTy).Contents (Elt F)),
    StableHlo.nullary main_call2_c (constantI S_ 32 0#32),
    StableHlo.unary main_call2_c main_call2_v0 ((broadcastInDim S16777216x1 ![] bcast_S_S16777216x1) : (⟨S_, .i32⟩ : BufTy).Contents (Elt F) → (⟨S16777216x1, .i32⟩ : BufTy).Contents (Elt F)),
    StableHlo.binary main_v14 main_call2_v0 main_call2_v1 ((cmpi .slt) : (⟨S16777216x1, .i32⟩ : BufTy).Contents (Elt F) → (⟨S16777216x1, .i32⟩ : BufTy).Contents (Elt F) → (⟨S16777216x1, .i1⟩ : BufTy).Contents (Elt F)),
    StableHlo.nullary main_call2_c_0 (constantI S_ 32 2#32),
    StableHlo.unary main_call2_c_0 main_call2_v2 ((broadcastInDim S16777216x1 ![] bcast_S_S16777216x1) : (⟨S_, .i32⟩ : BufTy).Contents (Elt F) → (⟨S16777216x1, .i32⟩ : BufTy).Contents (Elt F)),
    StableHlo.binary main_v14 main_call2_v2 main_call2_v3 (addi : (⟨S16777216x1, .i32⟩ : BufTy).Contents (Elt F) → (⟨S16777216x1, .i32⟩ : BufTy).Contents (Elt F) → (⟨S16777216x1, .i32⟩ : BufTy).Contents (Elt F)),
    StableHlo.ternary main_call2_v1 main_call2_v3 main_v14 main_call2_v4 (select : (⟨S16777216x1, .i1⟩ : BufTy).Contents (Elt F) → (⟨S16777216x1, .i32⟩ : BufTy).Contents (Elt F) → (⟨S16777216x1, .i32⟩ : BufTy).Contents (Elt F) → (⟨S16777216x1, .i32⟩ : BufTy).Contents (Elt F)),
    StableHlo.reshape main_call2_v4 main_call2_v5 (rfl : (.i32 : EltTy) = .i32) shapeCasts_S16777216x1_S16777216x1x1,
    StableHlo.nullary main_call2_c_1 (constantI S1 32 1#32),
    StableHlo.nullary main_call2_c_2 (constantI S_ 32 0#32),
    StableHlo.unary main_call2_c_2 main_call2_v6 ((broadcastInDim S16777216x1x1 ![] bcast_S_S16777216x1x1) : (⟨S_, .i32⟩ : BufTy).Contents (Elt F) → (⟨S16777216x1x1, .i32⟩ : BufTy).Contents (Elt F)),
    StableHlo.binary main_call2_v5 main_call2_v6 main_call2_v7 ((cmpi .sge) : (⟨S16777216x1x1, .i32⟩ : BufTy).Contents (Elt F) → (⟨S16777216x1x1, .i32⟩ : BufTy).Contents (Elt F) → (⟨S16777216x1x1, .i1⟩ : BufTy).Contents (Elt F)),
    StableHlo.unary main_call2_c_1 main_call2_v8 ((broadcastInDim S1x1x1 ![2] bcast_S1_S1x1x1_2) : (⟨S1, .i32⟩ : BufTy).Contents (Elt F) → (⟨S1x1x1, .i32⟩ : BufTy).Contents (Elt F)),
    StableHlo.unary main_call2_v8 main_call2_v9 ((broadcastInDim S16777216x1x1 ![0, 1, 2] bcast_S1x1x1_S16777216x1x1_0_1_2) : (⟨S1x1x1, .i32⟩ : BufTy).Contents (Elt F) → (⟨S16777216x1x1, .i32⟩ : BufTy).Contents (Elt F)),
    StableHlo.binary main_call2_v5 main_call2_v9 main_call2_v10 ((cmpi .sle) : (⟨S16777216x1x1, .i32⟩ : BufTy).Contents (Elt F) → (⟨S16777216x1x1, .i32⟩ : BufTy).Contents (Elt F) → (⟨S16777216x1x1, .i1⟩ : BufTy).Contents (Elt F)),
    StableHlo.binary main_call2_v7 main_call2_v10 main_call2_v11 (andi : (⟨S16777216x1x1, .i1⟩ : BufTy).Contents (Elt F) → (⟨S16777216x1x1, .i1⟩ : BufTy).Contents (Elt F) → (⟨S16777216x1x1, .i1⟩ : BufTy).Contents (Elt F)),
    StableHlo.nullary main_call2_c_3 (constantI S_ 1 1#1),
    StableHlo.binary main_call2_v11 main_call2_c_3 main_call2_v12 ((fun x v => Host.reduce IntOp.andi x v reducesTo_S16777216x1x1_S16777216x1_d2 h_S_) : (⟨S16777216x1x1, .i1⟩ : BufTy).Contents (Elt F) → (⟨S_, .i1⟩ : BufTy).Contents (Elt F) → (⟨S16777216x1, .i1⟩ : BufTy).Contents (Elt F)),
    StableHlo.binary main_v13 main_call2_v5 main_call2_v13 ((fun x i => Host.gather gather_S16777216x2_S16777216x1x1_S16777216x1_n_1_0_0_1_2_11 x i) : (⟨S16777216x2, .f32⟩ : BufTy).Contents (Elt F) → (⟨S16777216x1x1, .i32⟩ : BufTy).Contents (Elt F) → (⟨S16777216x1, .f32⟩ : BufTy).Contents (Elt F)),
    StableHlo.nullary main_call2_cst (constant S_ .f32 0x7FC00000#32),
    StableHlo.unary main_call2_cst main_call2_v14 ((broadcastInDim S16777216x1 ![] bcast_S_S16777216x1) : (⟨S_, .f32⟩ : BufTy).Contents (Elt F) → (⟨S16777216x1, .f32⟩ : BufTy).Contents (Elt F)),
    StableHlo.ternary main_call2_v12 main_call2_v13 main_call2_v14 main_v15 (select : (⟨S16777216x1, .i1⟩ : BufTy).Contents (Elt F) → (⟨S16777216x1, .f32⟩ : BufTy).Contents (Elt F) → (⟨S16777216x1, .f32⟩ : BufTy).Contents (Elt F) → (⟨S16777216x1, .f32⟩ : BufTy).Contents (Elt F)) ]
/-- The buffers it writes. -/
abbrev takeOps_W : List (Ref sig .tc) := [main_v14, main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v15]
/-- The mean cross-entropy. -/
abbrev ceOps : List (HloOp τ sig (Elt F)) :=
  [ StableHlo.nullary main_cst_0 (constant S_ .f32 0x00000000#32),
    StableHlo.binary main_v15 main_cst_0 main_v16 ((fun x v => Host.reduceAdd x v reducesTo_S16777216x1_S_d0_1 h_S_) : (⟨S16777216x1, .f32⟩ : BufTy).Contents (Elt F) → (⟨S_, .f32⟩ : BufTy).Contents (Elt F) → (⟨S_, .f32⟩ : BufTy).Contents (Elt F)),
    StableHlo.nullary main_cst_1 (constant S_ .f32 0x4B800000#32),
    StableHlo.binary main_v16 main_cst_1 main_v17 (Host.divf : (⟨S_, .f32⟩ : BufTy).Contents (Elt F) → (⟨S_, .f32⟩ : BufTy).Contents (Elt F) → (⟨S_, .f32⟩ : BufTy).Contents (Elt F)),
    StableHlo.unary main_v17 main_v18 (Host.negf : (⟨S_, .f32⟩ : BufTy).Contents (Elt F) → (⟨S_, .f32⟩ : BufTy).Contents (Elt F)) ]
/-- The buffers it writes. -/
abbrev ceOps_W : List (Ref sig .tc) := [main_cst_0, main_v16, main_cst_1, main_v17, main_v18]
/-- The class each row predicts. -/
abbrev argOps : List (HloOp τ sig (Elt F)) :=
  [ StableHlo.nullary main_call3_v0 (iotaInDim S16777216x2 32 1),
    StableHlo.nullary main_call3_cst (constant S_ .f32 0xFF800000#32),
    StableHlo.nullary main_call3_c (constantI S_ 32 0#32),
    StableHlo.quaternary main_arg0 main_call3_v0 main_call3_cst main_call3_c main_call3_v1_0 ((fun x y u v j => (Host.argReduce reducer_argmax_f32_i32 x y u v reducesTo_S16777216x2_S16777216_d1 h_S_ j).1) : (⟨S16777216x2, .f32⟩ : BufTy).Contents (Elt F) → (⟨S16777216x2, .i32⟩ : BufTy).Contents (Elt F) → (⟨S_, .f32⟩ : BufTy).Contents (Elt F) → (⟨S_, .i32⟩ : BufTy).Contents (Elt F) → (⟨S16777216, .f32⟩ : BufTy).Contents (Elt F)),
    StableHlo.quaternary main_arg0 main_call3_v0 main_call3_cst main_call3_c main_v19 ((fun x y u v j => (Host.argReduce reducer_argmax_f32_i32 x y u v reducesTo_S16777216x2_S16777216_d1 h_S_ j).2) : (⟨S16777216x2, .f32⟩ : BufTy).Contents (Elt F) → (⟨S16777216x2, .i32⟩ : BufTy).Contents (Elt F) → (⟨S_, .f32⟩ : BufTy).Contents (Elt F) → (⟨S_, .i32⟩ : BufTy).Contents (Elt F) → (⟨S16777216, .i32⟩ : BufTy).Contents (Elt F)) ]
/-- The buffers it writes. -/
abbrev argOps_W : List (Ref sig .tc) := [main_call3_v0, main_call3_cst, main_call3_c, main_call3_v1_0, main_v19]
/-- The cost of each sample. -/
abbrev lookOps : List (HloOp τ sig (Elt F)) :=
  [ StableHlo.nullary main_c (constantI S_ 32 0#32),
    StableHlo.unary main_c main_v20 (broadcastInDim S16777216 ![] bcast_S_S16777216 : (⟨S_, .i32⟩ : BufTy).Contents (Elt F) → (⟨S16777216, .i32⟩ : BufTy).Contents (Elt F)),
    StableHlo.binary main_v19 main_v20 main_v21 (cmpi .slt : (⟨S16777216, .i32⟩ : BufTy).Contents (Elt F) → (⟨S16777216, .i32⟩ : BufTy).Contents (Elt F) → (⟨S16777216, .i1⟩ : BufTy).Contents (Elt F)),
    StableHlo.nullary main_c_2 (constantI S_ 32 2#32),
    StableHlo.unary main_c_2 main_v22 (broadcastInDim S16777216 ![] bcast_S_S16777216 : (⟨S_, .i32⟩ : BufTy).Contents (Elt F) → (⟨S16777216, .i32⟩ : BufTy).Contents (Elt F)),
    StableHlo.binary main_v19 main_v22 main_v23 (addi : (⟨S16777216, .i32⟩ : BufTy).Contents (Elt F) → (⟨S16777216, .i32⟩ : BufTy).Contents (Elt F) → (⟨S16777216, .i32⟩ : BufTy).Contents (Elt F)),
    StableHlo.ternary main_v21 main_v23 main_v19 main_v24 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.nullary main_c_3 (constantI S_ 32 0#32),
    StableHlo.unary main_c_3 main_v25 (broadcastInDim S16777216 ![] bcast_S_S16777216 : (⟨S_, .i32⟩ : BufTy).Contents (Elt F) → (⟨S16777216, .i32⟩ : BufTy).Contents (Elt F)),
    StableHlo.binary main_arg1 main_v25 main_v26 (cmpi .slt : (⟨S16777216, .i32⟩ : BufTy).Contents (Elt F) → (⟨S16777216, .i32⟩ : BufTy).Contents (Elt F) → (⟨S16777216, .i1⟩ : BufTy).Contents (Elt F)),
    StableHlo.nullary main_c_4 (constantI S_ 32 2#32),
    StableHlo.unary main_c_4 main_v27 (broadcastInDim S16777216 ![] bcast_S_S16777216 : (⟨S_, .i32⟩ : BufTy).Contents (Elt F) → (⟨S16777216, .i32⟩ : BufTy).Contents (Elt F)),
    StableHlo.binary main_arg1 main_v27 main_v28 (addi : (⟨S16777216, .i32⟩ : BufTy).Contents (Elt F) → (⟨S16777216, .i32⟩ : BufTy).Contents (Elt F) → (⟨S16777216, .i32⟩ : BufTy).Contents (Elt F)),
    StableHlo.ternary main_v26 main_v28 main_arg1 main_v29 (select : (⟨S16777216, .i1⟩ : BufTy).Contents (Elt F) → (⟨S16777216, .i32⟩ : BufTy).Contents (Elt F) → (⟨S16777216, .i32⟩ : BufTy).Contents (Elt F) → (⟨S16777216, .i32⟩ : BufTy).Contents (Elt F)),
    StableHlo.unary main_v24 main_v30 (broadcastInDim S16777216x1 ![0] bcast_S16777216_S16777216x1_0 : (⟨S16777216, .i32⟩ : BufTy).Contents (Elt F) → (⟨S16777216x1, .i32⟩ : BufTy).Contents (Elt F)),
    StableHlo.unary main_v29 main_v31 (broadcastInDim S16777216x1 ![0] bcast_S16777216_S16777216x1_0 : (⟨S16777216, .i32⟩ : BufTy).Contents (Elt F) → (⟨S16777216x1, .i32⟩ : BufTy).Contents (Elt F)),
    StableHlo.binary main_v30 main_v31 main_v32 ((fun a b => concatenate S16777216x2 1 [⟨S16777216x1, a⟩, ⟨S16777216x1, b⟩] concatenates_S16777216x1_S16777216x1_S16777216x2_d1) : (⟨S16777216x1, .i32⟩ : BufTy).Contents (Elt F) → (⟨S16777216x1, .i32⟩ : BufTy).Contents (Elt F) → (⟨S16777216x2, .i32⟩ : BufTy).Contents (Elt F)),
    StableHlo.binary main_v12 main_v32 main_v33 ((fun x i => Host.gather gather_S2x2_S16777216x2_S16777216_n_01_n_n_01_1_11 x i) : (⟨S2x2, .f32⟩ : BufTy).Contents (Elt F) → (⟨S16777216x2, .i32⟩ : BufTy).Contents (Elt F) → (⟨S16777216, .f32⟩ : BufTy).Contents (Elt F)) ]
/-- The buffers it writes. -/
abbrev lookOps_W : List (Ref sig .tc) := [main_c, main_v20, main_v21, main_c_2, main_v22, main_v23, main_v24, main_c_3, main_v25, main_v26, main_c_4, main_v27, main_v28, main_v29, main_v30, main_v31, main_v32, main_v33]
/-- The confusion matrix, as four counts. -/
abbrev countOps : List (HloOp τ sig (Elt F)) :=
  [ StableHlo.nullary main_c_5 (constantI S_ 32 2#32),
    StableHlo.unary main_c_5 main_v34 (broadcastInDim S16777216 ![] bcast_S_S16777216 : (⟨S_, .i32⟩ : BufTy).Contents (Elt F) → (⟨S16777216, .i32⟩ : BufTy).Contents (Elt F)),
    StableHlo.binary main_arg1 main_v34 main_v35 (muli : (⟨S16777216, .i32⟩ : BufTy).Contents (Elt F) → (⟨S16777216, .i32⟩ : BufTy).Contents (Elt F) → (⟨S16777216, .i32⟩ : BufTy).Contents (Elt F)),
    StableHlo.binary main_v35 main_v19 main_v36 (addi : (⟨S16777216, .i32⟩ : BufTy).Contents (Elt F) → (⟨S16777216, .i32⟩ : BufTy).Contents (Elt F) → (⟨S16777216, .i32⟩ : BufTy).Contents (Elt F)),
    StableHlo.nullary main_cst_6 (constant S_ .f32 0x3F800000#32),
    StableHlo.unary main_cst_6 main_v37 (broadcastInDim S16777216 ![] bcast_S_S16777216 : (⟨S_, .f32⟩ : BufTy).Contents (Elt F) → (⟨S16777216, .f32⟩ : BufTy).Contents (Elt F)),
    StableHlo.nullary main_cst_7 (constant S_ .f32 0x00000000#32),
    StableHlo.unary main_cst_7 main_v38 (broadcastInDim S4 ![] bcast_S_S4 : (⟨S_, .f32⟩ : BufTy).Contents (Elt F) → (⟨S4, .f32⟩ : BufTy).Contents (Elt F)),
    StableHlo.unary main_v36 main_v39 (broadcastInDim S16777216x1 ![0] bcast_S16777216_S16777216x1_0 : (⟨S16777216, .i32⟩ : BufTy).Contents (Elt F) → (⟨S16777216x1, .i32⟩ : BufTy).Contents (Elt F)),
    StableHlo.ternary main_v38 main_v39 main_v37 main_v40 ((fun x i u => Host.scatterAdd scatter_S4_S16777216x1_S16777216_n_0_0_1 x i u) : (⟨S4, .f32⟩ : BufTy).Contents (Elt F) → (⟨S16777216x1, .i32⟩ : BufTy).Contents (Elt F) → (⟨S16777216, .f32⟩ : BufTy).Contents (Elt F) → (⟨S4, .f32⟩ : BufTy).Contents (Elt F)) ]
/-- The buffers it writes. -/
abbrev countOps_W : List (Ref sig .tc) := [main_c_5, main_v34, main_v35, main_v36, main_cst_6, main_v37, main_cst_7, main_v38, main_v39, main_v40]
/-- The four counts one by one. -/
abbrev cellOps : List (HloOp τ sig (Elt F)) :=
  [ StableHlo.unary main_v40 main_v41 ((extractStridedSlice S1 ![3] · slices_S4_S1_3) : (⟨S4, .f32⟩ : BufTy).Contents (Elt F) → (⟨S1, .f32⟩ : BufTy).Contents (Elt F)),
    StableHlo.reshape main_v41 main_v42 (rfl : (.f32 : EltTy) = .f32) shapeCasts_S1_S_,
    StableHlo.unary main_v40 main_v43 ((extractStridedSlice S1 ![0] · slices_S4_S1_0) : (⟨S4, .f32⟩ : BufTy).Contents (Elt F) → (⟨S1, .f32⟩ : BufTy).Contents (Elt F)),
    StableHlo.reshape main_v43 main_v44 (rfl : (.f32 : EltTy) = .f32) shapeCasts_S1_S_,
    StableHlo.unary main_v40 main_v45 ((extractStridedSlice S1 ![1] · slices_S4_S1_1) : (⟨S4, .f32⟩ : BufTy).Contents (Elt F) → (⟨S1, .f32⟩ : BufTy).Contents (Elt F)),
    StableHlo.reshape main_v45 main_v46 (rfl : (.f32 : EltTy) = .f32) shapeCasts_S1_S_,
    StableHlo.unary main_v40 main_v47 ((extractStridedSlice S1 ![2] · slices_S4_S1_2) : (⟨S4, .f32⟩ : BufTy).Contents (Elt F) → (⟨S1, .f32⟩ : BufTy).Contents (Elt F)),
    StableHlo.reshape main_v47 main_v48 (rfl : (.f32 : EltTy) = .f32) shapeCasts_S1_S_ ]
/-- The buffers it writes. -/
abbrev cellOps_W : List (Ref sig .tc) := [main_v41, main_v42, main_v43, main_v44, main_v45, main_v46, main_v47, main_v48]
/-- The weight of the cost term. -/
abbrev coefOps : List (HloOp τ sig (Elt F)) :=
  [ StableHlo.nullary main_cst_8 (constant S_ .f32 0x00000000#32),
    StableHlo.binary main_v42 main_cst_8 main_v49 (cmpf .ogt : (⟨S_, .f32⟩ : BufTy).Contents (Elt F) → (⟨S_, .f32⟩ : BufTy).Contents (Elt F) → (⟨S_, .i1⟩ : BufTy).Contents (Elt F)),
    StableHlo.nullary main_cst_9 (constant S_ .f32 0x00000000#32),
    StableHlo.binary main_v44 main_cst_9 main_v50 (cmpf .ogt : (⟨S_, .f32⟩ : BufTy).Contents (Elt F) → (⟨S_, .f32⟩ : BufTy).Contents (Elt F) → (⟨S_, .i1⟩ : BufTy).Contents (Elt F)),
    StableHlo.binary main_v49 main_v50 main_v51 (andi : (⟨S_, .i1⟩ : BufTy).Contents (Elt F) → (⟨S_, .i1⟩ : BufTy).Contents (Elt F) → (⟨S_, .i1⟩ : BufTy).Contents (Elt F)),
    StableHlo.nullary main_cst_10 (constant S_ .f32 0x00000000#32),
    StableHlo.binary main_v46 main_cst_10 main_v52 (cmpf .ogt : (⟨S_, .f32⟩ : BufTy).Contents (Elt F) → (⟨S_, .f32⟩ : BufTy).Contents (Elt F) → (⟨S_, .i1⟩ : BufTy).Contents (Elt F)),
    StableHlo.binary main_v51 main_v52 main_v53 (andi : (⟨S_, .i1⟩ : BufTy).Contents (Elt F) → (⟨S_, .i1⟩ : BufTy).Contents (Elt F) → (⟨S_, .i1⟩ : BufTy).Contents (Elt F)),
    StableHlo.nullary main_cst_11 (constant S_ .f32 0x00000000#32),
    StableHlo.binary main_v48 main_cst_11 main_v54 (cmpf .ogt : (⟨S_, .f32⟩ : BufTy).Contents (Elt F) → (⟨S_, .f32⟩ : BufTy).Contents (Elt F) → (⟨S_, .i1⟩ : BufTy).Contents (Elt F)),
    StableHlo.binary main_v53 main_v54 main_v55 (andi : (⟨S_, .i1⟩ : BufTy).Contents (Elt F) → (⟨S_, .i1⟩ : BufTy).Contents (Elt F) → (⟨S_, .i1⟩ : BufTy).Contents (Elt F)),
    StableHlo.binary main_v42 main_v48 main_v56 (addf : (⟨S_, .f32⟩ : BufTy).Contents (Elt F) → (⟨S_, .f32⟩ : BufTy).Contents (Elt F) → (⟨S_, .f32⟩ : BufTy).Contents (Elt F)),
    StableHlo.nullary main_cst_12 (constant S_ .f32 0x3F800000#32),
    StableHlo.binary main_v56 main_cst_12 main_v57 (maximumf : (⟨S_, .f32⟩ : BufTy).Contents (Elt F) → (⟨S_, .f32⟩ : BufTy).Contents (Elt F) → (⟨S_, .f32⟩ : BufTy).Contents (Elt F)),
    StableHlo.binary main_v42 main_v57 main_v58 (Host.divf : (⟨S_, .f32⟩ : BufTy).Contents (Elt F) → (⟨S_, .f32⟩ : BufTy).Contents (Elt F) → (⟨S_, .f32⟩ : BufTy).Contents (Elt F)),
    StableHlo.binary main_v46 main_v44 main_v59 (addf : (⟨S_, .f32⟩ : BufTy).Contents (Elt F) → (⟨S_, .f32⟩ : BufTy).Contents (Elt F) → (⟨S_, .f32⟩ : BufTy).Contents (Elt F)),
    StableHlo.nullary main_cst_13 (constant S_ .f32 0x3F800000#32),
    StableHlo.binary main_v59 main_cst_13 main_v60 (maximumf : (⟨S_, .f32⟩ : BufTy).Contents (Elt F) → (⟨S_, .f32⟩ : BufTy).Contents (Elt F) → (⟨S_, .f32⟩ : BufTy).Contents (Elt F)),
    StableHlo.binary main_v46 main_v60 main_v61 (Host.divf : (⟨S_, .f32⟩ : BufTy).Contents (Elt F) → (⟨S_, .f32⟩ : BufTy).Contents (Elt F) → (⟨S_, .f32⟩ : BufTy).Contents (Elt F)),
    StableHlo.binary main_v58 main_v61 main_v62 (mulf : (⟨S_, .f32⟩ : BufTy).Contents (Elt F) → (⟨S_, .f32⟩ : BufTy).Contents (Elt F) → (⟨S_, .f32⟩ : BufTy).Contents (Elt F)),
    StableHlo.nullary main_cst_14 (constant S_ .f32 0x0DA24260#32),
    StableHlo.binary main_v62 main_cst_14 main_v63 (maximumf : (⟨S_, .f32⟩ : BufTy).Contents (Elt F) → (⟨S_, .f32⟩ : BufTy).Contents (Elt F) → (⟨S_, .f32⟩ : BufTy).Contents (Elt F)),
    StableHlo.unary main_v63 main_v64 (Host.sqrt : (⟨S_, .f32⟩ : BufTy).Contents (Elt F) → (⟨S_, .f32⟩ : BufTy).Contents (Elt F)),
    StableHlo.unary main_v64 main_v65 (Host.log : (⟨S_, .f32⟩ : BufTy).Contents (Elt F) → (⟨S_, .f32⟩ : BufTy).Contents (Elt F)),
    StableHlo.nullary main_cst_15 (constant S_ .f32 0xBF000000#32),
    StableHlo.binary main_cst_15 main_v65 main_v66 (mulf : (⟨S_, .f32⟩ : BufTy).Contents (Elt F) → (⟨S_, .f32⟩ : BufTy).Contents (Elt F) → (⟨S_, .f32⟩ : BufTy).Contents (Elt F)),
    StableHlo.nullary main_cst_16 (constant S_ .f32 0x3F000000#32),
    StableHlo.unary main_cst_16 main_call4_v0 (id : (⟨S_, .f32⟩ : BufTy).Contents (Elt F) → (⟨S_, .f32⟩ : BufTy).Contents (Elt F)),
    StableHlo.ternary main_v55 main_v66 main_call4_v0 main_v67 (select : (⟨S_, .i1⟩ : BufTy).Contents (Elt F) → (⟨S_, .f32⟩ : BufTy).Contents (Elt F) → (⟨S_, .f32⟩ : BufTy).Contents (Elt F) → (⟨S_, .f32⟩ : BufTy).Contents (Elt F)) ]
/-- The buffers it writes. -/
abbrev coefOps_W : List (Ref sig .tc) := [main_cst_8, main_v49, main_cst_9, main_v50, main_v51, main_cst_10, main_v52, main_v53, main_cst_11, main_v54, main_v55, main_v56, main_cst_12, main_v57, main_v58, main_v59, main_cst_13, main_v60, main_v61, main_v62, main_cst_14, main_v63, main_v64, main_v65, main_cst_15, main_v66, main_cst_16, main_call4_v0, main_v67]
/-- The loss. -/
abbrev lossOps : List (HloOp τ sig (Elt F)) :=
  [ StableHlo.nullary main_cst_17 (constant S_ .f32 0x00000000#32),
    StableHlo.binary main_v33 main_cst_17 main_v68 ((fun x v => Host.reduceAdd x v reducesTo_S16777216_S_d0 h_S_) : (⟨S16777216, .f32⟩ : BufTy).Contents (Elt F) → (⟨S_, .f32⟩ : BufTy).Contents (Elt F) → (⟨S_, .f32⟩ : BufTy).Contents (Elt F)),
    StableHlo.nullary main_cst_18 (constant S_ .f32 0x4B800000#32),
    StableHlo.binary main_v68 main_cst_18 main_v69 (Host.divf : (⟨S_, .f32⟩ : BufTy).Contents (Elt F) → (⟨S_, .f32⟩ : BufTy).Contents (Elt F) → (⟨S_, .f32⟩ : BufTy).Contents (Elt F)),
    StableHlo.binary main_v67 main_v69 main_v70 (mulf : (⟨S_, .f32⟩ : BufTy).Contents (Elt F) → (⟨S_, .f32⟩ : BufTy).Contents (Elt F) → (⟨S_, .f32⟩ : BufTy).Contents (Elt F)),
    StableHlo.binary main_v18 main_v70 main_v71 (addf : (⟨S_, .f32⟩ : BufTy).Contents (Elt F) → (⟨S_, .f32⟩ : BufTy).Contents (Elt F) → (⟨S_, .f32⟩ : BufTy).Contents (Elt F)) ]
/-- The buffers it writes. -/
abbrev lossOps_W : List (Ref sig .tc) := [main_cst_17, main_v68, main_cst_18, main_v69, main_v70, main_v71]

/-- All of it. -/
abbrev allOps : List (HloOp τ sig (Elt F)) :=
  costOps ++ (softOps ++ (takeOps ++ (ceOps ++ (argOps ++ (lookOps ++ (countOps ++ (cellOps ++ (coefOps ++ (lossOps)))))))))

theorem main_line (d : Dev nD) : main (F := F) d = StableHlo.seq allOps := by chain_rfl
theorem costOps_sub : (costOps : List (HloOp τ sig (Elt F))).Forall fun op => op.bufs ⊆ StableHlo.tcRefs τ sig := by simp
theorem costOps_fresh : (costOps : List (HloOp τ sig (Elt F))).Forall fun op => op.fresh = ∅ := by simp only [List.Forall]; repeat' constructor
theorem costOps_writes : (costOps : List (HloOp τ sig (Elt F))).Forall fun op => op.writes ⊆ (costOps_W.map (Proc.devRef (τ := τ) .tc)).toFinset :=
  StableHlo.forall_writes_sub_of_map rfl
theorem softOps_sub : (softOps : List (HloOp τ sig (Elt F))).Forall fun op => op.bufs ⊆ StableHlo.tcRefs τ sig := by simp
theorem softOps_fresh : (softOps : List (HloOp τ sig (Elt F))).Forall fun op => op.fresh = ∅ := by simp only [List.Forall]; repeat' constructor
theorem softOps_writes : (softOps : List (HloOp τ sig (Elt F))).Forall fun op => op.writes ⊆ (softOps_W.map (Proc.devRef (τ := τ) .tc)).toFinset :=
  StableHlo.forall_writes_sub_of_map rfl
theorem takeOps_sub : (takeOps : List (HloOp τ sig (Elt F))).Forall fun op => op.bufs ⊆ StableHlo.tcRefs τ sig := by simp
theorem takeOps_fresh : (takeOps : List (HloOp τ sig (Elt F))).Forall fun op => op.fresh = ∅ := by simp only [List.Forall]; repeat' constructor
theorem takeOps_writes : (takeOps : List (HloOp τ sig (Elt F))).Forall fun op => op.writes ⊆ (takeOps_W.map (Proc.devRef (τ := τ) .tc)).toFinset :=
  StableHlo.forall_writes_sub_of_map rfl
theorem ceOps_sub : (ceOps : List (HloOp τ sig (Elt F))).Forall fun op => op.bufs ⊆ StableHlo.tcRefs τ sig := by simp
theorem ceOps_fresh : (ceOps : List (HloOp τ sig (Elt F))).Forall fun op => op.fresh = ∅ := by simp only [List.Forall]; repeat' constructor
theorem ceOps_writes : (ceOps : List (HloOp τ sig (Elt F))).Forall fun op => op.writes ⊆ (ceOps_W.map (Proc.devRef (τ := τ) .tc)).toFinset :=
  StableHlo.forall_writes_sub_of_map rfl
theorem argOps_sub : (argOps : List (HloOp τ sig (Elt F))).Forall fun op => op.bufs ⊆ StableHlo.tcRefs τ sig := by simp
theorem argOps_fresh : (argOps : List (HloOp τ sig (Elt F))).Forall fun op => op.fresh = ∅ := by simp only [List.Forall]; repeat' constructor
theorem argOps_writes : (argOps : List (HloOp τ sig (Elt F))).Forall fun op => op.writes ⊆ (argOps_W.map (Proc.devRef (τ := τ) .tc)).toFinset :=
  StableHlo.forall_writes_sub_of_map rfl
theorem lookOps_sub : (lookOps : List (HloOp τ sig (Elt F))).Forall fun op => op.bufs ⊆ StableHlo.tcRefs τ sig := by simp
theorem lookOps_fresh : (lookOps : List (HloOp τ sig (Elt F))).Forall fun op => op.fresh = ∅ := by simp only [List.Forall]; repeat' constructor
theorem lookOps_writes : (lookOps : List (HloOp τ sig (Elt F))).Forall fun op => op.writes ⊆ (lookOps_W.map (Proc.devRef (τ := τ) .tc)).toFinset :=
  StableHlo.forall_writes_sub_of_map rfl
theorem countOps_sub : (countOps : List (HloOp τ sig (Elt F))).Forall fun op => op.bufs ⊆ StableHlo.tcRefs τ sig := by simp
theorem countOps_fresh : (countOps : List (HloOp τ sig (Elt F))).Forall fun op => op.fresh = ∅ := by simp only [List.Forall]; repeat' constructor
theorem countOps_writes : (countOps : List (HloOp τ sig (Elt F))).Forall fun op => op.writes ⊆ (countOps_W.map (Proc.devRef (τ := τ) .tc)).toFinset :=
  StableHlo.forall_writes_sub_of_map rfl
theorem cellOps_sub : (cellOps : List (HloOp τ sig (Elt F))).Forall fun op => op.bufs ⊆ StableHlo.tcRefs τ sig := by simp
theorem cellOps_fresh : (cellOps : List (HloOp τ sig (Elt F))).Forall fun op => op.fresh = ∅ := by simp only [List.Forall]; repeat' constructor
theorem cellOps_writes : (cellOps : List (HloOp τ sig (Elt F))).Forall fun op => op.writes ⊆ (cellOps_W.map (Proc.devRef (τ := τ) .tc)).toFinset :=
  StableHlo.forall_writes_sub_of_map rfl
theorem coefOps_sub : (coefOps : List (HloOp τ sig (Elt F))).Forall fun op => op.bufs ⊆ StableHlo.tcRefs τ sig := by simp
theorem coefOps_fresh : (coefOps : List (HloOp τ sig (Elt F))).Forall fun op => op.fresh = ∅ := by simp only [List.Forall]; repeat' constructor
theorem coefOps_writes : (coefOps : List (HloOp τ sig (Elt F))).Forall fun op => op.writes ⊆ (coefOps_W.map (Proc.devRef (τ := τ) .tc)).toFinset :=
  StableHlo.forall_writes_sub_of_map rfl
theorem lossOps_sub : (lossOps : List (HloOp τ sig (Elt F))).Forall fun op => op.bufs ⊆ StableHlo.tcRefs τ sig := by simp
theorem lossOps_fresh : (lossOps : List (HloOp τ sig (Elt F))).Forall fun op => op.fresh = ∅ := by simp only [List.Forall]; repeat' constructor
theorem lossOps_writes : (lossOps : List (HloOp τ sig (Elt F))).Forall fun op => op.writes ⊆ (lossOps_W.map (Proc.devRef (τ := τ) .tc)).toFinset :=
  StableHlo.forall_writes_sub_of_map rfl

end Cert.ReferenceIdeal.Pf

end
-- ==== Proof.RefRun.lean ====
/- The reference's run: it ends with every buffer at the fold of its operations; the arguments stay. -/
module

public import proofs.«01_k».proof.Proof.RefOps
public import Idealize.ShloMosaic.Lib.Claim
public import Idealize.ShloMosaic.Lib.Pipeline.Regions
public import Idealize.ShloMosaic.Lib.Quiescent

@[expose] public section

set_option maxRecDepth 16384

noncomputable section

namespace Cert.ReferenceIdeal.Pf

open Cert.ReferenceIdeal.Gen
open Idealize.ShloMosaic Idealize.ShloMosaic.TcCoe Idealize.SL.Sem Idealize.ShloMosaic.Tactic

variable {F : FTy → Type} [FloatOps F]

/-- Folding over two lines is folding over the one, then the other. -/
theorem fold_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih _

theorem allOps_sub : (allOps : List (HloOp τ sig (Elt F))).Forall fun op => op.bufs ⊆ StableHlo.tcRefs τ sig :=
  List.forall_append.mpr ⟨costOps_sub, List.forall_append.mpr ⟨softOps_sub, List.forall_append.mpr ⟨takeOps_sub, List.forall_append.mpr ⟨ceOps_sub, List.forall_append.mpr ⟨argOps_sub, List.forall_append.mpr ⟨lookOps_sub, List.forall_append.mpr ⟨countOps_sub, List.forall_append.mpr ⟨cellOps_sub, List.forall_append.mpr ⟨coefOps_sub, lossOps_sub⟩⟩⟩⟩⟩⟩⟩⟩⟩
theorem allOps_fresh : (allOps : List (HloOp τ sig (Elt F))).Forall fun op => op.fresh = ∅ :=
  List.forall_append.mpr ⟨costOps_fresh, List.forall_append.mpr ⟨softOps_fresh, List.forall_append.mpr ⟨takeOps_fresh, List.forall_append.mpr ⟨ceOps_fresh, List.forall_append.mpr ⟨argOps_fresh, List.forall_append.mpr ⟨lookOps_fresh, List.forall_append.mpr ⟨countOps_fresh, List.forall_append.mpr ⟨cellOps_fresh, List.forall_append.mpr ⟨coefOps_fresh, lossOps_fresh⟩⟩⟩⟩⟩⟩⟩⟩⟩

/-- The run. -/
theorem run_line (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = StableHlo.after allOps (StableHlo.launchContents m d) (Proc.devRef .tc b) :=
  StableHlo.run_seq (by decide) (by decide) defs main (fun _ => allOps) main_line (fun _ => allOps_sub) m ρ
    (fun _ op h => List.forall_iff_forall_mem.mp allOps_fresh op h)

/-- A buffer that no piece writes is kept. -/
theorem allOps_kept (V : Valuation τ sig (Elt F)) (b : Ref sig .tc)
    (h_costOps : b ∉ costOps_W)
    (h_softOps : b ∉ softOps_W)
    (h_takeOps : b ∉ takeOps_W)
    (h_ceOps : b ∉ ceOps_W)
    (h_argOps : b ∉ argOps_W)
    (h_lookOps : b ∉ lookOps_W)
    (h_countOps : b ∉ countOps_W)
    (h_cellOps : b ∉ cellOps_W)
    (h_coefOps : b ∉ coefOps_W)
    (h_lossOps : b ∉ lossOps_W)
    : StableHlo.after allOps V (Proc.devRef .tc b) = V (Proc.devRef .tc b) := by
  unfold allOps
  simp only [fold_append]
  rw [StableHlo.after_of_writes_sub lossOps _ lossOps_writes h_lossOps]
  rw [StableHlo.after_of_writes_sub coefOps _ coefOps_writes h_coefOps]
  rw [StableHlo.after_of_writes_sub cellOps _ cellOps_writes h_cellOps]
  rw [StableHlo.after_of_writes_sub countOps _ countOps_writes h_countOps]
  rw [StableHlo.after_of_writes_sub lookOps _ lookOps_writes h_lookOps]
  rw [StableHlo.after_of_writes_sub argOps _ argOps_writes h_argOps]
  rw [StableHlo.after_of_writes_sub ceOps _ ceOps_writes h_ceOps]
  rw [StableHlo.after_of_writes_sub takeOps _ takeOps_writes h_takeOps]
  rw [StableHlo.after_of_writes_sub softOps _ softOps_writes h_softOps]
  rw [StableHlo.after_of_writes_sub costOps _ costOps_writes h_costOps]

theorem kept_arg0 (V : Valuation τ sig (Elt F)) : StableHlo.after allOps V (Proc.devRef .tc main_arg0) = V (Proc.devRef .tc main_arg0) :=
  allOps_kept V _ (by decide) (by decide) (by decide) (by decide) (by decide) (by decide) (by decide) (by decide) (by decide) (by decide)
theorem kept_arg1 (V : Valuation τ sig (Elt F)) : StableHlo.after allOps V (Proc.devRef .tc main_arg1) = V (Proc.devRef .tc main_arg1) :=
  allOps_kept V _ (by decide) (by decide) (by decide) (by decide) (by decide) (by decide) (by decide) (by decide) (by decide) (by decide)

/-- The frame: the arguments end as launched; there is no counter. -/
theorem frame (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0 :=
  θ_run_mono (run_line m ρ) fun r h => ⟨fun c => ⟨(h c _).trans (kept_arg0 _), (h c _).trans (kept_arg1 _)⟩,
    sem_eq_zero_of_no_sems (by decide) _⟩

end Cert.ReferenceIdeal.Pf

end
-- ==== Proof.Soft.lean ====
/- The reference's log-softmax, entry by entry: the row less its maximum, less the logarithm of the sum of the exponentials. -/
module

public import proofs.«01_k».proof.Proof.RefRun
public import Idealize.ShloMosaic.Lib.Pointwise

@[expose] public section

set_option maxRecDepth 16384

noncomputable section

namespace Cert.ReferenceIdeal.Pf

open Cert.ReferenceIdeal.Gen
open Idealize.ShloMosaic Idealize.ShloMosaic.TcCoe Idealize.SL.Sem Idealize.ShloMosaic.Tactic

/-- A row's maximum from the row's reduction, spread over the row. -/
def spreadMax (R : FVec Ideal S16777216 .f32) : FVec Ideal S16777216x2 .f32 :=
  broadcastInDim S16777216x2 ![0, 1] bcast_S16777216x1_S16777216x2_0_1 (broadcastInDim S16777216x1 ![0] bcast_S16777216_S16777216x1_0
    (maximumf (broadcastInDim S16777216 ![] bcast_S_S16777216 (constant S_ .f32 0xFF800000#32)) R))
/-- The logarithm of a row's sum, spread over the row. -/
def spreadLog (R : FVec Ideal S16777216 .f32) : FVec Ideal S16777216x2 .f32 :=
  broadcastInDim S16777216x2 ![0, 1] bcast_S16777216x1_S16777216x2_0_1 (Host.log (broadcastInDim S16777216x1 ![0] bcast_S16777216_S16777216x1_0 R))
theorem spreadMax_at (R : FVec Ideal S16777216 .f32) (n : Fin 16777216) (k : Fin 2) :
    spreadMax R (ix2 n k) = max (Ideal.ofBits .f32 0xFF800000#32) (R (ix1 n)) := by
  pointwise [spreadMax]
theorem spreadLog_at (R : FVec Ideal S16777216 .f32) (n : Fin 16777216) (k : Fin 2) : spreadLog R (ix2 n k) = Ideal.log (R (ix1 n)) := by
  pointwise [spreadLog]

theorem max_at (X : FVec Ideal S16777216x2 .f32) (u : FVec Ideal S_ .f32) (n : Fin 16777216) :
    Host.reduce FloatOps.maximumf X u reducesTo_S16777216x2_S16777216_d1 h_S_ (ix1 n)
     = Finset.univ.fold max (u (Shape.Idx.first h_S_)) (fun k => X (ix2 n k)) := by
  pointwise
theorem add_at (X : FVec Ideal S16777216x2 .f32) (u : FVec Ideal S_ .f32) (n : Fin 16777216) :
    Host.reduceAdd X u reducesTo_S16777216x2_S16777216_d1 h_S_ (ix1 n) = u (Shape.Idx.first h_S_) + ∑ k, X (ix2 n k) := by
  pointwise
theorem const_first (b : BitVec 32) : constant (F := Ideal) S_ .f32 b (Shape.Idx.first h_S_) = Ideal.ofBits .f32 b := rfl
theorem exp_at (X : FVec Ideal S16777216x2 .f32) (n : Fin 16777216) (k : Fin 2) : Host.exp X (ix2 n k) = Ideal.exp (X (ix2 n k)) := by
  pointwise
theorem sub_at (X Y : FVec Ideal S16777216x2 .f32) (n : Fin 16777216) (k : Fin 2) : subf X Y (ix2 n k) = X (ix2 n k) - Y (ix2 n k) := by
  pointwise

/-- The row maxima and the row sums the log-softmax is made of. -/
def rowMax (X : FVec Ideal S16777216x2 .f32) : FVec Ideal S16777216 .f32 :=
  Host.reduce FloatOps.maximumf X (constant S_ .f32 0xFF800000#32) reducesTo_S16777216x2_S16777216_d1 h_S_
def rowSum (X : FVec Ideal S16777216x2 .f32) : FVec Ideal S16777216 .f32 :=
  Host.reduceAdd X (constant S_ .f32 0x00000000#32) reducesTo_S16777216x2_S16777216_d1 h_S_
theorem rowMax_at (X : FVec Ideal S16777216x2 .f32) (n : Fin 16777216) :
    rowMax X (ix1 n) = Finset.univ.fold max (Ideal.ofBits .f32 0xFF800000#32) (fun k => X (ix2 n k)) := by
  unfold rowMax; rw [max_at, const_first]
theorem rowSum_at (X : FVec Ideal S16777216x2 .f32) (n : Fin 16777216) :
    rowSum X (ix1 n) = Ideal.ofBits .f32 0x00000000#32 + ∑ k, X (ix2 n k) := by
  unfold rowSum; rw [add_at, const_first]

/-- The rows less their maxima. -/
def centred (X : FVec Ideal S16777216x2 .f32) : FVec Ideal S16777216x2 .f32 := subf X (spreadMax (rowMax X))
/-- The log-softmax. -/
def logSoft (X : FVec Ideal S16777216x2 .f32) : FVec Ideal S16777216x2 .f32 := subf (centred X) (spreadLog (rowSum (Host.exp (centred X))))

theorem centred_at (X : FVec Ideal S16777216x2 .f32) (n : Fin 16777216) (k : Fin 2) : centred X (ix2 n k)
    = X (ix2 n k) - max (Ideal.ofBits .f32 0xFF800000#32) (Finset.univ.fold max (Ideal.ofBits .f32 0xFF800000#32) (fun q => X (ix2 n q))) := by
  unfold centred; rw [sub_at, spreadMax_at, rowMax_at]
theorem logSoft_at (X : FVec Ideal S16777216x2 .f32) (n : Fin 16777216) (k : Fin 2) : logSoft X (ix2 n k)
    = centred X (ix2 n k) - Ideal.log (Ideal.ofBits .f32 0x00000000#32 + ∑ q, Ideal.exp (centred X (ix2 n q))) := by
  unfold logSoft; rw [sub_at, spreadLog_at, rowSum_at]; simp only [exp_at]

theorem soft_val (V : Valuation τ sig (Elt Ideal)) : StableHlo.after softOps V (Proc.devRef .tc main_v13) = logSoft (V (Proc.devRef .tc main_arg0)) := by
  after_results
  unfold logSoft centred rowSum rowMax spreadLog spreadMax
  with_reducible rfl

end Cert.ReferenceIdeal.Pf

end
-- ==== Proof.Lookups.lean ====
/- Three indexed operations read at one element, at any extents: the entry a row's own index names, the entry a pair of
indices names, and the accumulation of updates at the elements their indices name. -/
module

public import Idealize.ShloMosaic.Lib.Pointwise
public import Idealize.ShloMosaic.Lib.ValueIdx

@[expose] public section

noncomputable section

namespace Cert.Look

open Idealize.ShloMosaic

/-- An axis of a matrix is the first or the second. -/
theorem axis_two (a : Fin 2) : a = 0 ∨ a = 1 := by omega

section Row
variable {α : Type} {N : Nat}

/-- The dimension numbers of taking one entry of each of `N` rows of two. -/
abbrev rowDims (N : Nat) (wf : GatherDims.WF ⟨2, ![N, 2]⟩ ⟨3, ![N, 1, 1]⟩ ⟨2, ![N, 1]⟩ [] [1] [0] [1] [0] 2 ![1, 1]) :
    GatherDims ⟨2, ![N, 2]⟩ ⟨3, ![N, 1, 1]⟩ ⟨2, ![N, 1]⟩ :=
  { offsetDims := [], collapsedSliceDims := [1], operandBatchingDims := [0], startIndicesBatchingDims := [0],
    startIndexMap := [1], indexVectorDim := 2, sliceSizes := ![1, 1], wf := wf }

/-- Row `n` gives its entry number `k` when its index word, cut to 0 or 1, is `k`. -/
theorem row_entry (wf : GatherDims.WF ⟨2, ![N, 2]⟩ ⟨3, ![N, 1, 1]⟩ ⟨2, ![N, 1]⟩ [] [1] [0] [1] [0] 2 ![1, 1])
    (x : (⟨2, ![N, 2]⟩ : Shape).Idx → α) (idx : IVec ⟨3, ![N, 1, 1]⟩ 32) (n : Fin N) (k : Fin 2)
    (hk : min (idx (ix3 n 0 0)).toInt.toNat 1 = k.val) : Host.gather (rowDims N wf) x idx (ix2 n 0) = x (ix2 n k) := by
  have key : ∀ a : Fin 2, (rowDims N wf).start (ix2 n 0) idx a + (rowDims N wf).batchCoord (ix2 n 0) a
      + (rowDims N wf).offCoord (ix2 n 0) a = (ix2 n k a).val := by
    intro a
    have off : (rowDims N wf).offCoord (ix2 n 0) a = 0 := by
      refine GatherDims.offCoord_eq_zero _ _ _ fun h => ?_
      rcases axis_two a with rfl | rfl
      · exact ((GatherDims.mem_sKept _ _).mp h).2 (by simp)
      · exact ((GatherDims.mem_sKept _ _).mp h).1 (by simp)
    rw [off, Nat.add_zero]
    rcases axis_two a with rfl | rfl
    · rw [GatherDims.start_batching _ _ _ _ (by simp), Nat.zero_add]
      unfold GatherDims.batchCoord
      rw [dif_pos (by simp)]
      rfl
    · rw [GatherDims.batchCoord_eq_zero _ _ _ (by simp), Nat.add_zero]
      have hmem : (1 : Fin 2) ∈ (rowDims N wf).startIndexMap := by simp
      have place : (rowDims N wf).siIdx (ix2 n 0) ⟨(rowDims N wf).startIndexMap.idxOf 1, List.idxOf_lt_length_iff.2 hmem⟩ = ix3 n 0 0 := by
        funext b
        refine Fin.ext ?_
        match b with
        | ⟨0, _⟩ => rfl
        | ⟨1, _⟩ => rfl
        | ⟨2, _⟩ => rfl
      unfold GatherDims.start
      rw [dif_pos hmem, place]
      exact hk
  unfold Host.gather
  exact congrArg x (funext fun a => Fin.ext (key a))

end Row

section Pair
variable {α : Type} {N : Nat}

/-- The dimension numbers of looking up `N` pairs of indices in a two by two table. -/
abbrev pairDims (N : Nat) (wf : GatherDims.WF ⟨2, ![2, 2]⟩ ⟨2, ![N, 2]⟩ ⟨1, ![N]⟩ [] [0, 1] [] [0, 1] [] 1 ![1, 1]) :
    GatherDims ⟨2, ![2, 2]⟩ ⟨2, ![N, 2]⟩ ⟨1, ![N]⟩ :=
  { offsetDims := [], collapsedSliceDims := [0, 1], operandBatchingDims := [], startIndicesBatchingDims := [],
    startIndexMap := [0, 1], indexVectorDim := 1, sliceSizes := ![1, 1], wf := wf }

/-- Pair `n` finds entry `(p, q)` when its two words, each cut to 0 or 1, are `p` and `q`. -/
theorem pair_entry (wf : GatherDims.WF ⟨2, ![2, 2]⟩ ⟨2, ![N, 2]⟩ ⟨1, ![N]⟩ [] [0, 1] [] [0, 1] [] 1 ![1, 1])
    (x : (⟨2, ![2, 2]⟩ : Shape).Idx → α) (idx : IVec ⟨2, ![N, 2]⟩ 32) (n : Fin N) (p q : Fin 2)
    (hp : min (idx (ix2 n 0)).toInt.toNat 1 = p.val) (hq : min (idx (ix2 n 1)).toInt.toNat 1 = q.val) :
    Host.gather (pairDims N wf) x idx (ix1 n) = x (ix2 p q) := by
  have key : ∀ a : Fin 2, (pairDims N wf).start (ix1 n) idx a + (pairDims N wf).batchCoord (ix1 n) a
      + (pairDims N wf).offCoord (ix1 n) a = (ix2 p q a).val := by
    intro a
    have hmem : a ∈ (pairDims N wf).startIndexMap := by rcases axis_two a with rfl | rfl <;> simp
    have off : (pairDims N wf).offCoord (ix1 n) a = 0 :=
      GatherDims.offCoord_eq_zero _ _ _ fun h => ((GatherDims.mem_sKept _ _).mp h).1 hmem
    rw [off, GatherDims.batchCoord_eq_zero _ _ _ (by simp)]
    show (pairDims N wf).start (ix1 n) idx a = _
    have place : (pairDims N wf).siIdx (ix1 n) ⟨(pairDims N wf).startIndexMap.idxOf a, List.idxOf_lt_length_iff.2 hmem⟩ = ix2 n a := by
      funext b
      refine Fin.ext ?_
      match b with
      | ⟨0, _⟩ => rfl
      | ⟨1, _⟩ => rcases axis_two a with rfl | rfl <;> rfl
    unfold GatherDims.start
    rw [dif_pos hmem, place]
    rcases axis_two a with rfl | rfl
    · exact hp
    · exact hq
  unfold Host.gather
  exact congrArg x (funext fun a => Fin.ext (key a))

end Pair

section Add
variable {N M : Nat}

/-- The dimension numbers of adding `N` numbers into `M` cells, an index to each. -/
abbrev addDims (N M : Nat) (wf : ScatterDims.WF ⟨1, ![M]⟩ ⟨2, ![N, 1]⟩ ⟨1, ![N]⟩ [] [0] [0] 1) :
    ScatterDims ⟨1, ![M]⟩ ⟨2, ![N, 1]⟩ ⟨1, ![N]⟩ :=
  { updateWindowDims := [], insertedWindowDims := [0], scatterDimsToOperandDims := [0], indexVectorDim := 1, wf := wf }

/-- Number `n` goes to cell `i` when its index word is `i`. -/
theorem goes_to (wf : ScatterDims.WF ⟨1, ![M]⟩ ⟨2, ![N, 1]⟩ ⟨1, ![N]⟩ [] [0] [0] 1) (idx : IVec ⟨2, ![N, 1]⟩ 32) (n : Fin N) (i : Fin M) :
    (addDims N M wf).resultIdx? (ix1 n) idx = some (ix1 i) ↔ (idx (ix2 n 0)).toInt = (i.val : Int) := by
  have hmem : (0 : Fin 1) ∈ (addDims N M wf).scatterDimsToOperandDims := by simp
  have hwin : (addDims N M wf).window (ix1 n) 0 = 0 := by
    unfold ScatterDims.window
    exact dif_neg fun h => absurd (List.mem_filter.1 h).2 (by simp)
  have place : (addDims N M wf).siIdx (ix1 n) ⟨(addDims N M wf).scatterDimsToOperandDims.idxOf 0, List.idxOf_lt_length_iff.2 hmem⟩ = ix2 n 0 := by
    funext b
    refine Fin.ext ?_
    match b with
    | ⟨0, _⟩ => rfl
    | ⟨1, _⟩ => rfl
  have hstart : (addDims N M wf).start (ix1 n) idx 0 = (idx (ix2 n 0)).toInt := by
    unfold ScatterDims.start
    rw [dif_pos hmem, place]
  have all0 : ∀ a : Fin 1, (addDims N M wf).start (ix1 n) idx a + (addDims N M wf).window (ix1 n) a = (idx (ix2 n 0)).toInt := by
    intro a
    obtain rfl : a = 0 := Subsingleton.elim _ _
    rw [hstart, hwin]; simp
  have size0 : ∀ a : Fin 1, (⟨1, ![M]⟩ : Shape).size a = M := by
    intro a
    obtain rfl : a = 0 := Subsingleton.elim _ _
    rfl
  have hi := i.isLt
  unfold ScatterDims.resultIdx?
  split
  · next h =>
    rw [Option.some.injEq]
    constructor
    · intro e
      have e0 := congrArg Fin.val (congrFun e 0)
      have h0 := h 0
      have := all0 0
      change ((addDims N M wf).start (ix1 n) idx 0 + (addDims N M wf).window (ix1 n) 0).toNat = i.val at e0
      rw [this] at e0 h0
      omega
    · intro e
      funext a
      obtain rfl : a = 0 := Subsingleton.elim _ _
      refine Fin.ext ?_
      show ((addDims N M wf).start (ix1 n) idx 0 + (addDims N M wf).window (ix1 n) 0).toNat = i.val
      rw [all0 0, e]; simp
  · next h =>
    refine ⟨fun e => (Option.some_ne_none _ e.symm).elim, fun e => (h fun a => ?_).elim⟩
    rw [all0 a, size0 a, e]
    omega

/-- A cell ends with what it held plus the numbers whose index words name it. -/
theorem add_entry (wf : ScatterDims.WF ⟨1, ![M]⟩ ⟨2, ![N, 1]⟩ ⟨1, ![N]⟩ [] [0] [0] 1) (x : FVec Ideal ⟨1, ![M]⟩ .f32)
    (idx : IVec ⟨2, ![N, 1]⟩ 32) (upd : FVec Ideal ⟨1, ![N]⟩ .f32) (i : Fin M) :
    Host.scatterAdd (F := Ideal) (addDims N M wf) x idx upd (ix1 i)
      = (x (ix1 i) + ∑ n : Fin N, if (idx (ix2 n 0)).toInt = (i.val : Int) then upd (ix1 n) else 0 : EReal) := by
  show Ideal.hostScatterAdd _ _ _ _ _ = _
  unfold Ideal.hostScatterAdd
  congr 1
  rw [Finset.sum_filter]
  let e : Fin N ≃ (⟨1, ![N]⟩ : Shape).Idx :=
    { toFun := fun n => ix1 n, invFun := fun j => j 0, left_inv := fun _ => rfl, right_inv := fun j => (eq_ix1 j).symm }
  rw [← e.sum_comp]
  refine Finset.sum_congr rfl fun n _ => ?_
  show (if (addDims N M wf).resultIdx? (ix1 n) idx = some (ix1 i) then upd (ix1 n) else 0) = _
  simp only [goes_to wf idx n i]

end Add

end Cert.Look

end
-- ==== Proof.Argmax.lean ====
/- The class a row of two logits predicts: 1 when the second is the greater, else 0. -/
module

public import proofs.«01_k».proof.Defs
public import Idealize.ShloMosaic.Lib.Pointwise
public import Idealize.ShloMosaic.Lib.ValueIdx

@[expose] public section

noncomputable section

namespace Cert.ReferenceIdeal.Pf

open Idealize.ShloMosaic

/-- The body of the arg-max keeps the first pair when its value is the greater, or the same with the smaller index; else it takes the second. -/
theorem body_eq (a b : EReal × BitVec 32) : Cert.ReferenceIdeal.reducer_argmax_f32_i32 (F := Ideal) a b
    = if b.1 < a.1 ∨ (a.1 = b.1 ∧ a.2.slt b.2) then a else b := by
  obtain ⟨a1, a2⟩ := a
  obtain ⟨b1, b2⟩ := b
  unfold Cert.ReferenceIdeal.reducer_argmax_f32_i32
  by_cases h : b1 < a1 <;> by_cases h' : a1 = b1 <;> cases h2 : a2.slt b2 <;>
    simp [Scalar.select, IntOp.ori, IntOp.andi, IntOp.cmpi, Ideal.cmpf_def, Ideal.cmp, h, h', h2]

/-- A fold that reaches a pair from which it no longer moves ends there, whenever that pair is met on the way. -/
theorem fold_settles {β : Type} (f : β → β → β) (S : β → Prop) (w : β) (hstay : ∀ b, S b → f w b = w)
    (htake : ∀ r, S r → f r w = w) (hin : ∀ r b, S r → S b → S (f r b)) :
    ∀ (l : List β) (r : β), (∀ b ∈ l, S b) → S r → (r = w ∨ w ∈ l) → l.foldl f r = w := by
  intro l
  induction l with
  | nil => intro r _ _ h; simpa using h
  | cons b l ih =>
    intro r hl hr h
    have hb := hl b (by simp)
    refine ih (f r b) (fun c hc => hl c (by simp [hc])) (hin r b hr hb) ?_
    rcases h with rfl | h
    · exact Or.inl (hstay b hb)
    · rcases List.mem_cons.1 h with rfl | h
      · exact Or.inl (htake r hr)
      · exact Or.inr h

variable {N : Nat}

/-- The row an entry of a matrix lies in. -/
theorem drop_row (h : (⟨2, ![N, 2]⟩ : Shape).ReducesTo [1] ⟨1, ![N]⟩) (i : (⟨2, ![N, 2]⟩ : Shape).Idx) (n : Fin N) :
    h.drop i = ix1 n ↔ (i 0).val = n.val := by
  have e : (h.drop i 0 : Nat) = (i 0).val := h.drop_apply_val_of_eq i 0 0 Nat.zero_lt_one rfl
  constructor
  · intro q
    rw [← e, q]
    rfl
  · intro q
    funext b
    obtain rfl : b = 0 := Subsingleton.elim (α := Fin 1) _ _
    exact Fin.ext (e.trans q)

/-- The arg-max of a row of two finite logits. -/
theorem argmax_row (h : (⟨2, ![N, 2]⟩ : Shape).ReducesTo [1] ⟨1, ![N]⟩) (hu : 0 < (⟨0, ![]⟩ : Shape).numel)
    (x : FVec Ideal ⟨2, ![N, 2]⟩ .f32) (y : IVec ⟨2, ![N, 2]⟩ 32) (ix : FVec Ideal ⟨0, ![]⟩ .f32) (iy : IVec ⟨0, ![]⟩ 32)
    (hix : ix (Shape.Idx.first hu) = (⊥ : EReal)) (hiy : iy (Shape.Idx.first hu) = 0#32)
    (n : Fin N) (hy0 : y (ix2 n 0) = 0#32) (hy1 : y (ix2 n 1) = 1#32) (p q : ℝ) (hp : x (ix2 n 0) = (p : EReal)) (hq : x (ix2 n 1) = (q : EReal)) :
    (Host.argReduce (F := Ideal) Cert.ReferenceIdeal.reducer_argmax_f32_i32 x y ix iy h hu (ix1 n)).2 = if p < q then 1#32 else 0#32 := by
  rw [Idealize.ShloMosaic.Ideal.argReduce_eq_reduce2, Host.reduce2_eq_foldl_fiber, hix, hiy]
  have mem : ∀ b, b ∈ Host.argReduceFiber x y h (ix1 n) ↔ b = ((p : EReal), 0#32) ∨ b = ((q : EReal), 1#32) := by
    intro b
    unfold Host.argReduceFiber
    simp only [List.mem_map, List.mem_filter, List.mem_finRange, true_and, decide_eq_true_eq, drop_row]
    constructor
    · rintro ⟨k, hk, rfl⟩
      obtain ⟨a, c, e⟩ : ∃ a c, (⟨2, ![N, 2]⟩ : Shape).rowMajor.symm k = ix2 a c := ⟨_, _, eq_ix2 _⟩
      rw [e] at hk ⊢
      obtain rfl : a = n := Fin.ext hk
      have hc : c = 0 ∨ c = 1 := by omega
      rcases hc with rfl | rfl
      · exact Or.inl (by rw [hp, hy0])
      · exact Or.inr (by rw [hq, hy1])
    · rintro (rfl | rfl)
      · exact ⟨(⟨2, ![N, 2]⟩ : Shape).rowMajor (ix2 n 0), by rw [Equiv.symm_apply_apply]; rfl, by rw [Equiv.symm_apply_apply, hp, hy0]⟩
      · exact ⟨(⟨2, ![N, 2]⟩ : Shape).rowMajor (ix2 n 1), by rw [Equiv.symm_apply_apply]; rfl, by rw [Equiv.symm_apply_apply, hq, hy1]⟩
  have hbp : ¬ ((p : EReal) < ⊥) := not_lt_bot
  have hbq : ¬ ((q : EReal) < ⊥) := not_lt_bot
  have hnp : (⊥ : EReal) ≠ p := (EReal.coe_ne_bot p).symm
  have hnq : (⊥ : EReal) ≠ q := (EReal.coe_ne_bot q).symm
  have hin : ∀ r b : EReal × BitVec 32, (r = ((⊥ : EReal), 0#32) ∨ r = ((p : EReal), 0#32) ∨ r = ((q : EReal), 1#32)) →
      (b = ((⊥ : EReal), 0#32) ∨ b = ((p : EReal), 0#32) ∨ b = ((q : EReal), 1#32)) →
      (Cert.ReferenceIdeal.reducer_argmax_f32_i32 (F := Ideal) r b = ((⊥ : EReal), 0#32)
        ∨ Cert.ReferenceIdeal.reducer_argmax_f32_i32 (F := Ideal) r b = ((p : EReal), 0#32)
        ∨ Cert.ReferenceIdeal.reducer_argmax_f32_i32 (F := Ideal) r b = ((q : EReal), 1#32)) := by
    intro r b hr hb
    rw [body_eq]
    split
    · exact hr
    · exact hb
  have slt0 : (0#32).slt 1#32 = true := by decide
  have slt1 : (1#32).slt 0#32 = false := by decide
  have slt2 : (0#32).slt 0#32 = false := by decide
  by_cases hlt : p < q
  · rw [if_pos hlt]
    rw [fold_settles Cert.ReferenceIdeal.reducer_argmax_f32_i32
      (fun b => b = ((⊥ : EReal), 0#32) ∨ b = ((p : EReal), 0#32) ∨ b = ((q : EReal), 1#32)) ((q : EReal), 1#32) ?_ ?_ hin _ _
      (fun b hb => Or.inr ((mem b).1 hb)) (Or.inl rfl) (Or.inr ((mem _).2 (Or.inr rfl)))]
    · rintro b (rfl | rfl | rfl) <;> simp [body_eq, hlt, slt1, EReal.bot_lt_coe]
    · rintro b (rfl | rfl | rfl) <;> simp [body_eq, hlt.not_gt, hlt.ne, slt1]
  · rw [if_neg hlt]
    rw [fold_settles Cert.ReferenceIdeal.reducer_argmax_f32_i32
      (fun b => b = ((⊥ : EReal), 0#32) ∨ b = ((p : EReal), 0#32) ∨ b = ((q : EReal), 1#32)) ((p : EReal), 0#32) ?_ ?_ hin _ _
      (fun b hb => Or.inr ((mem b).1 hb)) (Or.inl rfl) (Or.inr ((mem _).2 (Or.inl rfl)))]
    · rintro b (rfl | rfl | rfl)
      · simp [body_eq, EReal.bot_lt_coe]
      · simp [body_eq, slt2]
      · rcases lt_or_eq_of_le (not_lt.1 hlt) with h1 | h1
        · simp [body_eq, h1]
        · simp [body_eq, h1, slt0]
    · rintro b (rfl | rfl | rfl)
      · simp [body_eq, hnp]
      · simp [body_eq, slt2]
      · simp [body_eq, hlt, slt1]

end Cert.ReferenceIdeal.Pf

end
-- ==== Proof.RefReads.lean ====
/- The pieces of the reference, each read at one element: the log-probability of the label, the cost table and its look-up, the counts. -/
module

public import proofs.«01_k».proof.Proof.Soft
public import proofs.«01_k».proof.Proof.Lookups
public import proofs.«01_k».proof.Proof.Argmax

@[expose] public section

set_option maxRecDepth 16384

noncomputable section

namespace Cert.ReferenceIdeal.Pf

open Cert.ReferenceIdeal.Gen
open Idealize.ShloMosaic Idealize.ShloMosaic.TcCoe Idealize.SL.Sem Idealize.ShloMosaic.Tactic

/-- A class as an index word. -/
abbrev word (k : Fin 2) : BitVec 32 := BitVec.ofNat 32 k.val

/-- The log-probability that row `n`'s label names. -/
theorem take_val (V : Valuation τ sig (Elt Ideal)) (n : Fin 16777216) (k : Fin 2)
    (hy : (show IVec S16777216 32 from V (Proc.devRef .tc main_arg1)) (ix1 n) = word k) :
    (show FVec Ideal S16777216x1 .f32 from StableHlo.after takeOps V (Proc.devRef .tc main_v15)) (ix2 n 0)
      = (show FVec Ideal S16777216x2 .f32 from V (Proc.devRef .tc main_v13)) (ix2 n k) := by
  after_results
  pointwise
  rw [show (V (Proc.devRef .tc main_arg1)) (ix1 n) = word k from hy]
  rw [show ∀ idx, min (idx (ix3 n 0 0)).toInt.toNat 1 = k.val → Host.gather gather_S16777216x2_S16777216x1x1_S16777216x1_n_1_0_0_1_2_11
    (V (Proc.devRef .tc main_v13)) idx (ix2 n 0) = (V (Proc.devRef .tc main_v13)) (ix2 n k) from
     fun idx h => Look.row_entry _ _ idx n k h]
  · rcases Look.axis_two k with rfl | rfl <;> simp [word, Finset.univ_unique, Finset.fold_singleton, IntOp.cmpi, IntOp.andi, Scalar.select, IntOp.addi]
  · show min (Scalar.select (IntOp.cmpi .slt ((V (Proc.devRef .tc main_arg1)) (ix1 n)) 0#32) (IntOp.addi ((V (Proc.devRef .tc main_arg1)) (ix1 n)) 2#32) ((V (Proc.devRef .tc main_arg1)) (ix1 n))).toInt.toNat 1 = k.val
    rw [show (V (Proc.devRef .tc main_arg1)) (ix1 n) = word k from hy]
    rcases Look.axis_two k with rfl | rfl <;> decide

/-- A word as a number. -/
theorem asReal (b : BitVec 32) : FloatOps.sitofp (F := Ideal) .f32 b = ((b.toInt : ℝ) : EReal) := rfl

/-- The cost table. -/
theorem cost_val (V : Valuation τ sig (Elt Ideal)) (p q : Fin 2) :
    (show FVec Ideal S2x2 .f32 from StableHlo.after costOps V (Proc.devRef .tc main_v12)) (ix2 p q) = if p = 0 ∧ q = 1 then 1 else 0 := by
  after_results
  pointwise
  rcases Look.axis_two p with rfl | rfl <;> rcases Look.axis_two q with rfl | rfl <;>
    simp [Scalar.select, IntOp.cmpi, IntOp.subi, asReal, constant_apply]

/-- The mean cross-entropy. -/
theorem ce_val (V : Valuation τ sig (Elt Ideal)) :
    (show FVec Ideal S_ .f32 from StableHlo.after ceOps V (Proc.devRef .tc main_v18))
      = fun _ => -Ideal.div (∑ n : Fin 16777216, (show FVec Ideal S16777216x1 .f32 from V (Proc.devRef .tc main_v15)) (ix2 n 0)) (Ideal.ofBits .f32 0x4B800000#32) := by
  after_results
  funext j
  pointwise
  simp only [Fin.sum_univ_one]

theorem ofBits_bot : Ideal.ofBits .f32 0xFF800000#32 = ⊥ := by simp [Ideal.ofBits, Ideal.ieee]

/-- The class a row of finite logits predicts. -/
theorem arg_val (V : Valuation τ sig (Elt Ideal)) (n : Fin 16777216) (p q : ℝ)
    (hp : (show FVec Ideal S16777216x2 .f32 from V (Proc.devRef .tc main_arg0)) (ix2 n 0) = (p : EReal))
    (hq : (show FVec Ideal S16777216x2 .f32 from V (Proc.devRef .tc main_arg0)) (ix2 n 1) = (q : EReal)) :
    (show IVec S16777216 32 from StableHlo.after argOps V (Proc.devRef .tc main_v19)) (ix1 n) = word (if p < q then 1 else 0) := by
  after_results
  pointwise
  rw [argmax_row _ _ _ _ _ _ ?_ ?_ n ?_ ?_ p q hp hq]
  · split <;> rfl
  · exact ofBits_bot
  · rfl
  · rfl
  · rfl

theorem join_left (A B : IVec S16777216x1 32) (n : Fin 16777216) :
    concatenate S16777216x2 1 [⟨S16777216x1, A⟩, ⟨S16777216x1, B⟩] concatenates_S16777216x1_S16777216x1_S16777216x2_d1 (ix2 n 0) = A (ix2 n 0) := by
  pointwise
theorem join_right (A B : IVec S16777216x1 32) (n : Fin 16777216) :
    concatenate S16777216x2 1 [⟨S16777216x1, A⟩, ⟨S16777216x1, B⟩] concatenates_S16777216x1_S16777216x1_S16777216x2_d1 (ix2 n 1) = B (ix2 n 0) := by
  pointwise

/-- The cost of row `n`. -/
theorem look_val (V : Valuation τ sig (Elt Ideal)) (n : Fin 16777216) (p q : Fin 2)
    (hp : (show IVec S16777216 32 from V (Proc.devRef .tc main_v19)) (ix1 n) = word p)
    (hq : (show IVec S16777216 32 from V (Proc.devRef .tc main_arg1)) (ix1 n) = word q) :
    (show FVec Ideal S16777216 .f32 from StableHlo.after lookOps V (Proc.devRef .tc main_v33)) (ix1 n)
      = (show FVec Ideal S2x2 .f32 from V (Proc.devRef .tc main_v12)) (ix2 p q) := by
  after_results
  pointwise
  refine Look.pair_entry _ _ _ n p q ?_ ?_
  · rw [join_left]
    pointwise
    rw [show (V (Proc.devRef .tc main_v19)) (ix1 n) = word p from hp]
    rcases Look.axis_two p with rfl | rfl <;> decide
  · rw [join_right]
    pointwise
    rw [show (V (Proc.devRef .tc main_arg1)) (ix1 n) = word q from hq]
    rcases Look.axis_two q with rfl | rfl <;> decide

/-- The number of rows with label `y` that predict `p`, at cell `2 y + p`. -/
theorem count_val (V : Valuation τ sig (Elt Ideal)) (i : Fin 4) :
    (show FVec Ideal S4 .f32 from StableHlo.after countOps V (Proc.devRef .tc main_v40)) (ix1 i)
      = (∑ n : Fin 16777216, if (IntOp.addi (IntOp.muli ((show IVec S16777216 32 from V (Proc.devRef .tc main_arg1)) (ix1 n)) 2#32)
          ((show IVec S16777216 32 from V (Proc.devRef .tc main_v19)) (ix1 n))).toInt = (i.val : Int) then 1 else 0 : EReal) := by
  after_results
  pointwise
  refine (Look.add_entry _ _ _ _ i).trans ?_
  pointwise

/-- The four counts. -/
theorem cell_val (V : Valuation τ sig (Elt Ideal)) :
    (show FVec Ideal S_ .f32 from StableHlo.after cellOps V (Proc.devRef .tc main_v42)) = (fun _ => (show FVec Ideal S4 .f32 from V (Proc.devRef .tc main_v40)) (ix1 3))
    ∧ (show FVec Ideal S_ .f32 from StableHlo.after cellOps V (Proc.devRef .tc main_v44)) = (fun _ => (show FVec Ideal S4 .f32 from V (Proc.devRef .tc main_v40)) (ix1 0))
    ∧ (show FVec Ideal S_ .f32 from StableHlo.after cellOps V (Proc.devRef .tc main_v46)) = (fun _ => (show FVec Ideal S4 .f32 from V (Proc.devRef .tc main_v40)) (ix1 1))
    ∧ (show FVec Ideal S_ .f32 from StableHlo.after cellOps V (Proc.devRef .tc main_v48)) = (fun _ => (show FVec Ideal S4 .f32 from V (Proc.devRef .tc main_v40)) (ix1 2)) := by
  refine ⟨?_, ?_, ?_, ?_⟩ <;> after_results <;> funext j <;> pointwise

/-- The weight of the cost term from the numbers of true positives, false positives, true negatives and false negatives. -/
def coefficient (tp fp tn fn : EReal) : EReal :=
  if 0 < tp ∧ 0 < tn ∧ 0 < fp ∧ 0 < fn then
    Ideal.ofBits .f32 0xBF000000#32 * Ideal.log (Ideal.sqrt (max (Ideal.div tp (max (tp + fn) 1) * Ideal.div fp (max (fp + tn) 1)) (Ideal.ofBits .f32 0x0DA24260#32)))
  else Ideal.ofBits .f32 0x3F000000#32

theorem all_four (p q r s : Prop) [Decidable p] [Decidable q] [Decidable r] [Decidable s] (a b : EReal) :
    Scalar.select (IntOp.andi (IntOp.andi (IntOp.andi (BitVec.ofBool (decide p)) (BitVec.ofBool (decide q))) (BitVec.ofBool (decide r))) (BitVec.ofBool (decide s))) a b
      = if p ∧ q ∧ r ∧ s then a else b := by
  by_cases hp : p <;> by_cases hq : q <;> by_cases hr : r <;> by_cases hs : s <;> simp [hp, hq, hr, hs, Scalar.select, IntOp.andi]

theorem coef_val (V : Valuation τ sig (Elt Ideal)) (tp fp tn fn : EReal)
    (h42 : (show FVec Ideal S_ .f32 from V (Proc.devRef .tc main_v42)) = fun _ => tp)
    (h44 : (show FVec Ideal S_ .f32 from V (Proc.devRef .tc main_v44)) = fun _ => tn)
    (h46 : (show FVec Ideal S_ .f32 from V (Proc.devRef .tc main_v46)) = fun _ => fp)
    (h48 : (show FVec Ideal S_ .f32 from V (Proc.devRef .tc main_v48)) = fun _ => fn) :
    (show FVec Ideal S_ .f32 from StableHlo.after coefOps V (Proc.devRef .tc main_v67)) = fun _ => coefficient tp fp tn fn := by
  after_results
  funext j
  rw [show (V (Proc.devRef .tc main_v42)) = (fun _ => tp : FVec Ideal S_ .f32) from h42, show (V (Proc.devRef .tc main_v44)) = (fun _ => tn : FVec Ideal S_ .f32) from h44,
    show (V (Proc.devRef .tc main_v46)) = (fun _ => fp : FVec Ideal S_ .f32) from h46, show (V (Proc.devRef .tc main_v48)) = (fun _ => fn : FVec Ideal S_ .f32) from h48]
  pointwise
  exact all_four _ _ _ _ _ _

/-- The loss. -/
theorem loss_val (V : Valuation τ sig (Elt Ideal)) :
    (show FVec Ideal S_ .f32 from StableHlo.after lossOps V (Proc.devRef .tc main_v71))
      = fun j => (show FVec Ideal S_ .f32 from V (Proc.devRef .tc main_v18)) j + (show FVec Ideal S_ .f32 from V (Proc.devRef .tc main_v67)) j
        * Ideal.div (∑ n : Fin 16777216, (show FVec Ideal S16777216 .f32 from V (Proc.devRef .tc main_v33)) (ix1 n)) (Ideal.ofBits .f32 0x4B800000#32) := by
  after_results
  funext j
  pointwise

end Cert.ReferenceIdeal.Pf

end
-- ==== Proof.RefValue.lean ====
/- The reference's result in closed form, for finite logits and labels that are classes. -/
module

public import proofs.«01_k».proof.Proof.RefReads

@[expose] public section

set_option maxRecDepth 16384

noncomputable section

namespace Cert.ReferenceIdeal.Pf

open Cert.ReferenceIdeal.Gen
open Idealize.ShloMosaic Idealize.ShloMosaic.TcCoe Idealize.SL.Sem Idealize.ShloMosaic.Tactic

/-- The predicted class of a row of logits `a`, `b`. -/
def pick (a b : ℝ) : Fin 2 := if a < b then 1 else 0

/-- The number of rows of class `y` predicted to be of class `p`. -/
def hits (k r : Fin 16777216 → Fin 2) (y p : Fin 2) : EReal := ∑ n, if k n = y ∧ r n = p then 1 else 0

/-- Twice the label plus the prediction is the cell's number exactly for the cell's own label and prediction. -/
theorem cell_iff (k r y p : Fin 2) (i : Fin 4) (hi : i.val = 2 * y.val + p.val) :
    (IntOp.addi (IntOp.muli (word k) 2#32) (word r)).toInt = (i.val : Int) ↔ k = y ∧ r = p := by
  rw [hi]
  clear hi i
  revert k r y p
  decide

/-- The reference's result. -/
theorem value (V : Valuation τ sig (Elt Ideal)) (X : FVec Ideal S16777216x2 .f32) (Y : IVec S16777216 32)
    (hX : (show FVec Ideal S16777216x2 .f32 from V (Proc.devRef .tc main_arg0)) = X)
    (hY : (show IVec S16777216 32 from V (Proc.devRef .tc main_arg1)) = Y)
    (a b : Fin 16777216 → ℝ) (k : Fin 16777216 → Fin 2)
    (ha : ∀ n, X (ix2 n 0) = (a n : EReal)) (hb : ∀ n, X (ix2 n 1) = (b n : EReal)) (hk : ∀ n, Y (ix1 n) = word (k n)) :
    (show FVec Ideal S_ .f32 from StableHlo.after allOps V (Proc.devRef .tc main_v71)) = fun _ =>
      -Ideal.div (∑ n, logSoft X (ix2 n (k n))) (Ideal.ofBits .f32 0x4B800000#32)
      + coefficient (hits k (fun n => pick (a n) (b n)) 1 1) (hits k (fun n => pick (a n) (b n)) 0 1) (hits k (fun n => pick (a n) (b n)) 0 0)
          (hits k (fun n => pick (a n) (b n)) 1 0)
        * Ideal.div (hits k (fun n => pick (a n) (b n)) 1 0) (Ideal.ofBits .f32 0x4B800000#32) := by
  unfold allOps
  simp only [fold_append]
  obtain ⟨V1, h1⟩ : ∃ V1, V1 = StableHlo.after costOps V := ⟨_, rfl⟩
  obtain ⟨V2, h2⟩ : ∃ V2, V2 = StableHlo.after softOps V1 := ⟨_, rfl⟩
  obtain ⟨V3, h3⟩ : ∃ V3, V3 = StableHlo.after takeOps V2 := ⟨_, rfl⟩
  obtain ⟨V4, h4⟩ : ∃ V4, V4 = StableHlo.after ceOps V3 := ⟨_, rfl⟩
  obtain ⟨V5, h5⟩ : ∃ V5, V5 = StableHlo.after argOps V4 := ⟨_, rfl⟩
  obtain ⟨V6, h6⟩ : ∃ V6, V6 = StableHlo.after lookOps V5 := ⟨_, rfl⟩
  obtain ⟨V7, h7⟩ : ∃ V7, V7 = StableHlo.after countOps V6 := ⟨_, rfl⟩
  obtain ⟨V8, h8⟩ : ∃ V8, V8 = StableHlo.after cellOps V7 := ⟨_, rfl⟩
  obtain ⟨V9, h9⟩ : ∃ V9, V9 = StableHlo.after coefOps V8 := ⟨_, rfl⟩
  rw [← h1, ← h2, ← h3, ← h4, ← h5, ← h6, ← h7, ← h8, ← h9]
  have keep1 : ∀ r : Ref sig .tc, r ∉ costOps_W → V1 (Proc.devRef .tc r) = V (Proc.devRef .tc r) := fun r h => by
    rw [h1]; exact StableHlo.after_of_writes_sub costOps _ costOps_writes h
  have keep2 : ∀ r : Ref sig .tc, r ∉ softOps_W → V2 (Proc.devRef .tc r) = V1 (Proc.devRef .tc r) := fun r h => by
    rw [h2]; exact StableHlo.after_of_writes_sub softOps _ softOps_writes h
  have keep3 : ∀ r : Ref sig .tc, r ∉ takeOps_W → V3 (Proc.devRef .tc r) = V2 (Proc.devRef .tc r) := fun r h => by
    rw [h3]; exact StableHlo.after_of_writes_sub takeOps _ takeOps_writes h
  have keep4 : ∀ r : Ref sig .tc, r ∉ ceOps_W → V4 (Proc.devRef .tc r) = V3 (Proc.devRef .tc r) := fun r h => by
    rw [h4]; exact StableHlo.after_of_writes_sub ceOps _ ceOps_writes h
  have keep5 : ∀ r : Ref sig .tc, r ∉ argOps_W → V5 (Proc.devRef .tc r) = V4 (Proc.devRef .tc r) := fun r h => by
    rw [h5]; exact StableHlo.after_of_writes_sub argOps _ argOps_writes h
  have keep6 : ∀ r : Ref sig .tc, r ∉ lookOps_W → V6 (Proc.devRef .tc r) = V5 (Proc.devRef .tc r) := fun r h => by
    rw [h6]; exact StableHlo.after_of_writes_sub lookOps _ lookOps_writes h
  have keep7 : ∀ r : Ref sig .tc, r ∉ countOps_W → V7 (Proc.devRef .tc r) = V6 (Proc.devRef .tc r) := fun r h => by
    rw [h7]; exact StableHlo.after_of_writes_sub countOps _ countOps_writes h
  have keep8 : ∀ r : Ref sig .tc, r ∉ cellOps_W → V8 (Proc.devRef .tc r) = V7 (Proc.devRef .tc r) := fun r h => by
    rw [h8]; exact StableHlo.after_of_writes_sub cellOps _ cellOps_writes h
  have keep9 : ∀ r : Ref sig .tc, r ∉ coefOps_W → V9 (Proc.devRef .tc r) = V8 (Proc.devRef .tc r) := fun r h => by
    rw [h9]; exact StableHlo.after_of_writes_sub coefOps _ coefOps_writes h
  -- the arguments along the way
  have x1 : V1 (Proc.devRef .tc main_arg0) = V (Proc.devRef .tc main_arg0) := keep1 _ (by decide)
  have x4 : V4 (Proc.devRef .tc main_arg0) = V (Proc.devRef .tc main_arg0) := by
    rw [keep4 _ (by decide), keep3 _ (by decide), keep2 _ (by decide), x1]
  have y2 : V2 (Proc.devRef .tc main_arg1) = V (Proc.devRef .tc main_arg1) := by
    rw [keep2 _ (by decide), keep1 _ (by decide)]
  have y5 : V5 (Proc.devRef .tc main_arg1) = V (Proc.devRef .tc main_arg1) := by
    rw [keep5 _ (by decide), keep4 _ (by decide), keep3 _ (by decide), y2]
  have y6 : V6 (Proc.devRef .tc main_arg1) = V (Proc.devRef .tc main_arg1) := by
    rw [keep6 _ (by decide), y5]
  -- the cross-entropy
  have v13 : (show FVec Ideal S16777216x2 .f32 from V2 (Proc.devRef .tc main_v13)) = logSoft X := by
    rw [h2]
    refine (soft_val V1).trans ?_
    exact congrArg logSoft (x1.trans hX)
  have v15 : ∀ n, (show FVec Ideal S16777216x1 .f32 from V3 (Proc.devRef .tc main_v15)) (ix2 n 0) = logSoft X (ix2 n (k n)) := by
    intro n
    rw [h3]
    refine (take_val V2 n (k n) ?_).trans (congrFun v13 _)
    exact (congrFun (y2.trans hY) _).trans (hk n)
  have v18 : (show FVec Ideal S_ .f32 from V9 (Proc.devRef .tc main_v18))
      = fun _ => -Ideal.div (∑ n, logSoft X (ix2 n (k n))) (Ideal.ofBits .f32 0x4B800000#32) := by
    rw [keep9 _ (by decide), keep8 _ (by decide), keep7 _ (by decide), keep6 _ (by decide), keep5 _ (by decide), h4]
    refine (ce_val V3).trans ?_
    simp only [v15]
  -- the predictions
  have v19 : ∀ n, (show IVec S16777216 32 from V5 (Proc.devRef .tc main_v19)) (ix1 n) = word (pick (a n) (b n)) := by
    intro n
    rw [h5]
    exact arg_val V4 n (a n) (b n) ((congrFun (x4.trans hX) _).trans (ha n)) ((congrFun (x4.trans hX) _).trans (hb n))
  have v19' : ∀ n, (show IVec S16777216 32 from V6 (Proc.devRef .tc main_v19)) (ix1 n) = word (pick (a n) (b n)) := by
    intro n
    rw [keep6 _ (by decide)]
    exact v19 n
  -- the costs
  have v12 : ∀ p q, (show FVec Ideal S2x2 .f32 from V5 (Proc.devRef .tc main_v12)) (ix2 p q) = if p = 0 ∧ q = 1 then 1 else 0 := by
    intro p q
    rw [keep5 _ (by decide), keep4 _ (by decide), keep3 _ (by decide), keep2 _ (by decide), h1]
    exact cost_val V p q
  have v33 : ∀ n, (show FVec Ideal S16777216 .f32 from V9 (Proc.devRef .tc main_v33)) (ix1 n)
      = if k n = 1 ∧ pick (a n) (b n) = 0 then 1 else 0 := by
    intro n
    rw [keep9 _ (by decide), keep8 _ (by decide), keep7 _ (by decide), h6]
    refine (look_val V5 n (pick (a n) (b n)) (k n) (v19 n) ((congrFun (y5.trans hY) _).trans (hk n))).trans ?_
    rw [v12]
    exact if_congr and_comm rfl rfl
  -- the counts
  have v40 : ∀ (y p : Fin 2) (i : Fin 4), i.val = 2 * y.val + p.val →
      (show FVec Ideal S4 .f32 from V7 (Proc.devRef .tc main_v40)) (ix1 i) = hits k (fun n => pick (a n) (b n)) y p := by
    intro y p i hi
    rw [h7]
    refine (count_val V6 i).trans ?_
    unfold hits
    refine Finset.sum_congr rfl fun n _ => ?_
    have hy : (show IVec S16777216 32 from V6 (Proc.devRef .tc main_arg1)) (ix1 n) = word (k n) := (congrFun (y6.trans hY) _).trans (hk n)
    rw [hy, v19' n]
    exact if_congr (cell_iff _ _ _ _ _ hi) rfl rfl
  have cells := cell_val V7
  rw [← h8] at cells
  obtain ⟨c42, c44, c46, c48⟩ := cells
  have v67 : (show FVec Ideal S_ .f32 from V9 (Proc.devRef .tc main_v67)) = fun _ => coefficient (hits k (fun n => pick (a n) (b n)) 1 1)
      (hits k (fun n => pick (a n) (b n)) 0 1) (hits k (fun n => pick (a n) (b n)) 0 0) (hits k (fun n => pick (a n) (b n)) 1 0) := by
    rw [h9]
    refine coef_val V8 _ _ _ _ (c42.trans ?_) (c44.trans ?_) (c46.trans ?_) (c48.trans ?_)
    · exact funext fun _ => v40 1 1 3 rfl
    · exact funext fun _ => v40 0 0 0 rfl
    · exact funext fun _ => v40 0 1 1 rfl
    · exact funext fun _ => v40 1 0 2 rfl
  refine (loss_val V9).trans ?_
  funext j
  rw [v18, v67]
  simp only [v33]
  rfl

end Cert.ReferenceIdeal.Pf

end
-- ==== Proof.Tiles.lean ====
/- What the kernel's result is: the second kernel's combination of the four sums as the last of the sixteen points leaves
   them. -/
module

public import proofs.«01_k».proof.Proof.RunMain
public import Idealize.ShloMosaic.Lib.Pipeline.ValueKit
public import Idealize.ShloMosaic.Lib.Claim

@[expose] public section

set_option maxRecDepth 16384

noncomputable section

namespace Cert.KernelIdeal.Pf

open Cert.KernelIdeal.Gen
open Idealize.ShloMosaic Idealize.ShloMosaic.TcCoe Idealize.SL.Sem Idealize.ShloMosaic.Tactic
open Idealize.ShloMosaic.Pipeline (Dat)

variable {F : FTy → Type} [FloatOps F]

section Tiles
variable (V : (c : Dev nD) → (b : Ref sig .tc) → Buf (Elt F) ((c : Thread nD τ).loc b))

/-! The first kernel's four results. -/

theorem tile_ce (c : Dev nD) : (dat0 V c).arrAt 1 cfg0.N = ceAt V c 15 := by
  refine (dat0 V c).arrAt_eq_of_after_last 1 t0_15 (by decide +kernel) _ fun j => ?_
  blk_simp
  rw [after0_1]
  blk_ext
theorem tile_lab (c : Dev nD) : (dat0 V c).arrAt 2 cfg0.N = labAt V c 15 := by
  refine (dat0 V c).arrAt_eq_of_after_last 2 t0_15 (by decide +kernel) _ fun j => ?_
  blk_simp
  rw [after0_2]
  blk_ext
theorem tile_pred (c : Dev nD) : (dat0 V c).arrAt 3 cfg0.N = predAt V c 15 := by
  refine (dat0 V c).arrAt_eq_of_after_last 3 t0_15 (by decide +kernel) _ fun j => ?_
  blk_simp
  rw [after0_3]
  blk_ext
theorem tile_tp (c : Dev nD) : (dat0 V c).arrAt 4 cfg0.N = tpAt V c 15 := by
  refine (dat0 V c).arrAt_eq_of_after_last 4 t0_15 (by decide +kernel) _ fun j => ?_
  blk_simp
  rw [after0_4]
  blk_ext

theorem idx1 : ∀ t : Fin cfg1.N, win1_0.index t = ![0, 0] ∧ win1_1.index t = ![0, 0] ∧ win1_2.index t = ![0, 0] ∧ win1_3.index t = ![0, 0] :=
  (by decide +kernel : ∀ t : Fin grid1.N, _)

/-! The second kernel's blocks are its whole arrays. -/

theorem whole0 (c : Dev nD) (t : Fin cfg1.N) : iblk1 V c 0 t = V c main_v4_0 := by blk_ext! [iblk1, idx1 t]
theorem whole1 (c : Dev nD) (t : Fin cfg1.N) : iblk1 V c 1 t = V c main_v4_1 := by blk_ext! [iblk1, idx1 t]
theorem whole2 (c : Dev nD) (t : Fin cfg1.N) : iblk1 V c 2 t = V c main_v4_2 := by blk_ext! [iblk1, idx1 t]
theorem whole3 (c : Dev nD) (t : Fin cfg1.N) : iblk1 V c 3 t = V c main_v4_3 := by blk_ext! [iblk1, idx1 t]

theorem tile_out (c : Dev nD) : (dat1 V c).arrAt 4 cfg1.N = combine (V c main_v4_0) (V c main_v4_1) (V c main_v4_2) (V c main_v4_3) := by
  refine (dat1 V c).arrAt_eq_of_after_last 4 t1_0 (by decide +kernel) _ fun j => ?_
  blk_simp
  rw [after1_4, whole0, whole1, whole2, whole3]
  blk_ext

end Tiles

variable (m : (ℓ : Loc nD τ sig) → Buf (Elt F) ℓ)

theorem W3_out (c : Dev nD) : W3 m c main_v5 = combine (ceAt (at1 m) c 15) (labAt (at1 m) c 15) (predAt (at1 m) c 15) (tpAt (at1 m) c 15) := by
  refine (W3_arr m c 4).trans ?_
  rw [tile_out]
  have e0 : at2 m c main_v4_0 = ceAt (at1 m) c 15 := (W2_arr m c 1).trans (tile_ce _ c)
  have e1 : at2 m c main_v4_1 = labAt (at1 m) c 15 := (W2_arr m c 2).trans (tile_lab _ c)
  have e2 : at2 m c main_v4_2 = predAt (at1 m) c 15 := (W2_arr m c 3).trans (tile_pred _ c)
  have e3 : at2 m c main_v4_3 = tpAt (at1 m) c 15 := (W2_arr m c 4).trans (tile_tp _ c)
  rw [e0, e1, e2, e3]

/-- The kernel's result. -/
theorem W4_out (c : Dev nD) : W4 m c main_v6
    = shapeCast S_ (combine (ceAt (at1 m) c 15) (labAt (at1 m) c 15) (predAt (at1 m) c 15) (tpAt (at1 m) c 15)) shapeCasts_S1x1_S_ := by
  rw [← W3_out m c]
  after_results
  rfl

end Cert.KernelIdeal.Pf

end
-- ==== Proof.Reads.lean ====
/- What the first kernel reads: block `b` of the labels and of the logits, entry by entry, in the two arguments. -/
module

public import proofs.«01_k».proof.Proof.Tiles
public import Idealize.ShloMosaic.Lib.Pointwise

@[expose] public section

set_option maxRecDepth 16384

noncomputable section

namespace Cert.KernelIdeal.Pf

open Cert.KernelIdeal.Gen
open Idealize.ShloMosaic Idealize.ShloMosaic.TcCoe Idealize.SL.Sem Idealize.ShloMosaic.Tactic
open Idealize.ShloMosaic.Pipeline (Dat)

section Reads
variable (m : (ℓ : Loc nD τ sig) → Buf (Elt Ideal) ℓ)

/-- The labels laid out by rows of 128. -/
theorem host_lab (c : Dev nD) : at1 m c main_v3 = shapeCast S131072x128 (m ((c : Thread nD τ).loc main_arg1)) shapeCasts_S16777216_S131072x128 := by
  show StableHlo.after hostOps0 (W0 m c) (Proc.devRef .tc main_v3) = _
  after_results
  rfl
/-- The logits laid out by rows of 128, the two classes of a row one after the other. -/
theorem host_log (c : Dev nD) : at1 m c main_v2 = shapeCast S262144x128 (transpose S131072x2x128 [0, 2, 1]
      (shapeCast S131072x128x2 (m ((c : Thread nD τ).loc main_arg0)) shapeCasts_S16777216x2_S131072x128x2)
      transposes_S131072x128x2_S131072x2x128_0_2_1) shapeCasts_S131072x2x128_S262144x128 := by
  show StableHlo.after hostOps0 (W0 m c) (Proc.devRef .tc main_v2) = _
  after_results
  rfl

/-- A block of the logits is 8192 rows of the array seen as rows of 256. -/
theorem block_read (c : Dev nD) (W : FVec Ideal S262144x128 .f32) (b : Fin 16) (r : Fin 8192) (k : Fin 256) :
    (blockM b).view.read (Elt Ideal) (show BufOf c logM from W) (ix2 r k)
      = shapeCast S131072x256 W reshapes_S262144x128_S131072x256.1 (ix2 ⟨8192 * b.val + r.val, by omega⟩ k) := by
  have e : ((Rect.unit (s := S131072x256) ![8192 * b.val, 0] S8192x256.size (block_fits b)).emb (ix2 r k) : S131072x256.Idx)
      = ix2 (⟨8192 * b.val + r.val, by omega⟩ : Fin 131072) k := by
    funext a
    match a with
    | ⟨0, _⟩ => exact Fin.ext (by show _ + 1 * _ = _; simp)
    | ⟨1, _⟩ => exact Fin.ext (by show _ + 1 * _ = _; simp)
  exact congrArg (fun i => W (Shape.reshapeEquiv reshapes_S262144x128_S131072x256.1 i)) e

theorem idx0 : ∀ t : Fin cfg0.N, win0_0.index t = ![t.val, 0] := (by decide +kernel : ∀ t : Fin grid0.N, _)

theorem pure_lab (Y : IVec S16777216 32) (R : Fin 131072) (k : Fin 128) :
    shapeCast S131072x128 Y shapeCasts_S16777216_S131072x128 (ix2 R k) = Y (ix1 ⟨R.val * 128 + k.val, by omega⟩) := by
  pointwise

/-- Entry `(r, k)` of block `b` of the labels. -/
theorem lab_read (c : Dev nD) (b : Fin 16) (r : Fin 8192) (k : Fin 128) :
    (show IVec S8192x128 32 from labBlk (at1 m) c b.val) (ix2 r k)
      = (show IVec S16777216 32 from m ((c : Thread nD τ).loc main_arg1)) (ix1 ⟨(8192 * b.val + r.val) * 128 + k.val, by omega⟩) := by
  refine Eq.trans ?_ (pure_lab _ ⟨8192 * b.val + r.val, by omega⟩ k)
  rw [← host_lab m c]
  have hb : (ptOf b.val).val = b.val := Nat.mod_eq_of_lt b.isLt
  unfold labBlk
  blk_ext [iblk0, idx0 (ptOf b.val), hb]

theorem pure_log (X : FVec Ideal S16777216x2 .f32) (R : Fin 131072) (k : Fin 256) :
  shapeCast S131072x256 (shapeCast S262144x128 (transpose S131072x2x128 [0, 2, 1]
      (shapeCast S131072x128x2 X shapeCasts_S16777216x2_S131072x128x2)
      transposes_S131072x128x2_S131072x2x128_0_2_1) shapeCasts_S131072x2x128_S262144x128) reshapes_S262144x128_S131072x256.1 (ix2 R k)
   = X (ix2 ⟨R.val * 128 + k.val % 128, by omega⟩ ⟨k.val / 128, by omega⟩) := by
  pointwise
  blk_ext

/-- The difference of the two logits at entry `(r, k)` of block `b`. -/
theorem diff_read (c : Dev nD) (b : Fin 16) (r : Fin 8192) (k : Fin 128) :
    k0_pay10 (F := Ideal) (logBlk (at1 m) c b.val) (ix2 r k)
      = (show FVec Ideal S16777216x2 .f32 from m ((c : Thread nD τ).loc main_arg0)) (ix2 ⟨(8192 * b.val + r.val) * 128 + k.val, by omega⟩ 1)
        - (show FVec Ideal S16777216x2 .f32 from m ((c : Thread nD τ).loc main_arg0)) (ix2 ⟨(8192 * b.val + r.val) * 128 + k.val, by omega⟩ 0) := by
  have hb : Ring.bk 16 b.val = b := Fin.ext (Nat.mod_eq_of_lt b.isLt)
  have h (q : Fin 256) : (blockM b).view.read (Elt Ideal) (at1 m c main_v2) (ix2 r q) = _ :=
    (block_read c (at1 m c main_v2) b r q).trans (by rw [host_log m c])
  unfold logBlk slab
  rw [hb]
  pointwise [k0_pay10]
  rw [h, h, pure_log, pure_log]
  refine congrArg₂ (fun a b : EReal => a - b) ?_ ?_
  · blk_ext
  · blk_ext

end Reads

end Cert.KernelIdeal.Pf

end
-- ==== Proof.Totals.lean ====
/- The kernel's result in closed form: four sums over all samples, combined. -/
module

public import proofs.«01_k».proof.Proof.Reads

@[expose] public section

set_option maxRecDepth 16384

noncomputable section

namespace Cert.KernelIdeal.Pf

open Cert.KernelIdeal.Gen
open Idealize.ShloMosaic Idealize.ShloMosaic.TcCoe Idealize.SL.Sem Idealize.ShloMosaic.Tactic

/-! ## What one sample adds -/

section Sample
variable (X : FVec Ideal S16777216x2 .f32) (Y : IVec S16777216 32)

/-- The logit of class 1 less that of class 0. -/
def dif (n : Fin 16777216) : EReal := X (ix2 n 1) - X (ix2 n 0)
/-- The label as a number. -/
def lab (n : Fin 16777216) : EReal := FloatOps.sitofp (F := Ideal) .f32 (Y (ix1 n))
/-- The difference, its sign turned when the label is 1. -/
def turned (n : Fin 16777216) : EReal := (1 - Ideal.ofBits .f32 0x40000000#32 * lab Y n) * dif X n
/-- The cross-entropy, as the kernel computes it. -/
def ceK (n : Fin 16777216) : EReal := max (turned X Y n) 0 + Ideal.log1p (Ideal.exp (0 - FloatOps.absf (F := Ideal) (φ := .f32) (turned X Y n)))
/-- One when class 1 is predicted. -/
def prK (n : Fin 16777216) : EReal := if 0 < dif X n then 1 else 0
/-- The label when class 1 is predicted. -/
def tpK (n : Fin 16777216) : EReal := if 0 < dif X n then lab Y n else 0

end Sample

/-! ## What one block adds to an entry of a tile -/

theorem ce_entry (v : FVec Ideal S1x8192x256 .f32) (x : IVec S8192x128 32) (r : Fin 8192) (l : Fin 128) :
    k0_pay12 (F := Ideal) v x (ix2 r l)
      = max ((1 - Ideal.ofBits .f32 0x40000000#32 * FloatOps.sitofp (F := Ideal) .f32 (x (ix2 r l))) * k0_pay10 (F := Ideal) v (ix2 r l)) 0
        + Ideal.log1p (Ideal.exp (0 - FloatOps.absf (F := Ideal) (φ := .f32)
            ((1 - Ideal.ofBits .f32 0x40000000#32 * FloatOps.sitofp (F := Ideal) .f32 (x (ix2 r l))) * k0_pay10 (F := Ideal) v (ix2 r l)))) := by
  pointwise [k0_pay12, k0_pay11]
theorem lab_entry (x : IVec S8192x128 32) (r : Fin 8192) (l : Fin 128) :
    k0_pay11 (F := Ideal) x (ix2 r l) = FloatOps.sitofp (F := Ideal) .f32 (x (ix2 r l)) := by
  pointwise [k0_pay11]
theorem fold_entry (w : FVec Ideal S8192x128 .f32) (r : Fin 8) (l : Fin 128) :
    k0_pay2 w (ix2 r l) = ∑ q : Fin 1024, w (ix2 ⟨q.val * 8 + r.val, by omega⟩ l) := by
  pointwise [k0_pay2]
theorem fold_lab_entry (w : FVec Ideal S8192x128 .f32) (r : Fin 8) (l : Fin 128) :
    k0_pay3 w (ix2 r l) = ∑ q : Fin 1024, w (ix2 ⟨q.val * 8 + r.val, by omega⟩ l) := by
  pointwise [k0_pay3]
theorem fold_pred_entry (w : FVec Ideal S8192x128 .f32) (r : Fin 8) (l : Fin 128) :
    k0_pay4 w (k0_pay13 (F := Ideal)) (ix2 r l) = ∑ q : Fin 1024, (if 0 < w (ix2 ⟨q.val * 8 + r.val, by omega⟩ l) then 1 else 0) := by
  pointwise [k0_pay4, k0_pay1, k0_pay13]
theorem fold_tp_entry (w u : FVec Ideal S8192x128 .f32) (r : Fin 8) (l : Fin 128) :
    k0_pay5 w u (k0_pay13 (F := Ideal)) (ix2 r l)
      = ∑ q : Fin 1024, (if 0 < w (ix2 ⟨q.val * 8 + r.val, by omega⟩ l) then u (ix2 ⟨q.val * 8 + r.val, by omega⟩ l) else 0) := by
  pointwise [k0_pay5, k0_pay1, k0_pay13]
theorem add_ce (w : FVec Ideal S8192x128 .f32) (p : FVec Ideal S8x128 .f32) (j : S8x128.Idx) : k0_pay6 (F := Ideal) w p j = p j + k0_pay2 w j := by
  pointwise [k0_pay6]
theorem add_lab (w : FVec Ideal S8192x128 .f32) (p : FVec Ideal S8x128 .f32) (j : S8x128.Idx) : k0_pay7 (F := Ideal) w p j = p j + k0_pay3 w j := by
  pointwise [k0_pay7]
theorem add_pred (w z : FVec Ideal S8192x128 .f32) (p : FVec Ideal S8x128 .f32) (j : S8x128.Idx) : k0_pay8 (F := Ideal) w z p j = p j + k0_pay4 w z j := by
  pointwise [k0_pay8]
theorem add_tp (w u z : FVec Ideal S8192x128 .f32) (p : FVec Ideal S8x128 .f32) (j : S8x128.Idx) :
    k0_pay9 (F := Ideal) w u z p j = p j + k0_pay5 w u z j := by
  pointwise [k0_pay9]

/-! ## The tiles after the last point -/

/-- A sum kept by recursion over sixteen points. -/
theorem accumulated (A part : ℕ → EReal) (h0 : A 0 = part 0) (hs : ∀ n, A (n + 1) = A n + part (n + 1)) :
    A 15 = ∑ b : Fin 16, part b.val := by
  have h (n : ℕ) : A n = ∑ b ∈ Finset.range (n + 1), part b := by
    induction n with
    | zero => rw [h0]; simp
    | succ n ih => rw [hs, ih, ← Finset.sum_range_succ]
  rw [h 15]
  exact Finset.sum_range part

/-- The sample at row `r`, lane `l` of a tile's entry, in block `b` at depth `q`. -/
def sampleAt (r : Fin 8) (l : Fin 128) (b : Fin 16) (q : Fin 1024) : Fin 16777216 := ⟨(8192 * b.val + (q.val * 8 + r.val)) * 128 + l.val, by omega⟩
/-- An entry of a tile: the sum of `f` over the samples that fall on it. -/
def tile (f : Fin 16777216 → EReal) (r : Fin 8) (l : Fin 128) : EReal := ∑ b : Fin 16, ∑ q : Fin 1024, f (sampleAt r l b q)

section Tiles
variable (m : (ℓ : Loc nD τ sig) → Buf (Elt Ideal) ℓ)

/-- The two arguments. -/
abbrev argX (c : Dev nD) : FVec Ideal S16777216x2 .f32 := m ((c : Thread nD τ).loc main_arg0)
abbrev argY (c : Dev nD) : IVec S16777216 32 := m ((c : Thread nD τ).loc main_arg1)

theorem dif_at (c : Dev nD) (r : Fin 8) (l : Fin 128) (b : Fin 16) (q : Fin 1024) :
    k0_pay10 (F := Ideal) (logBlk (at1 m) c b.val) (ix2 ⟨q.val * 8 + r.val, by omega⟩ l) = dif (argX m c) (sampleAt r l b q) :=
  diff_read m c b ⟨q.val * 8 + r.val, by omega⟩ l
theorem lab_at (c : Dev nD) (r : Fin 8) (l : Fin 128) (b : Fin 16) (q : Fin 1024) :
    FloatOps.sitofp (F := Ideal) .f32 ((show IVec S8192x128 32 from labBlk (at1 m) c b.val) (ix2 ⟨q.val * 8 + r.val, by omega⟩ l)) = lab (argY m c) (sampleAt r l b q) :=
  congrArg (FloatOps.sitofp (F := Ideal) .f32) (lab_read m c b ⟨q.val * 8 + r.val, by omega⟩ l)

theorem ce_tile (c : Dev nD) (r : Fin 8) (l : Fin 128) : ceAt (at1 m) c 15 (ix2 r l) = tile (ceK (argX m c) (argY m c)) r l := by
  refine (accumulated (fun n => ceAt (at1 m) c n (ix2 r l)) (fun n => k0_pay2 (k0_pay12 (F := Ideal) (logBlk (at1 m) c n) (labBlk (at1 m) c n)) (ix2 r l))
    rfl (fun n => add_ce _ _ _)).trans (Finset.sum_congr rfl fun b _ => ?_)
  rw [fold_entry]
  refine Finset.sum_congr rfl fun q _ => ?_
  rw [ce_entry, dif_at, lab_at]
  rfl
theorem lab_tile (c : Dev nD) (r : Fin 8) (l : Fin 128) : labAt (at1 m) c 15 (ix2 r l) = tile (lab (argY m c)) r l := by
  refine (accumulated (fun n => labAt (at1 m) c n (ix2 r l)) (fun n => k0_pay3 (k0_pay11 (F := Ideal) (labBlk (at1 m) c n)) (ix2 r l))
    rfl (fun n => add_lab _ _ _)).trans (Finset.sum_congr rfl fun b _ => ?_)
  rw [fold_lab_entry]
  refine Finset.sum_congr rfl fun q _ => ?_
  rw [lab_entry, lab_at]
theorem pred_tile (c : Dev nD) (r : Fin 8) (l : Fin 128) : predAt (at1 m) c 15 (ix2 r l) = tile (prK (argX m c)) r l := by
  refine (accumulated (fun n => predAt (at1 m) c n (ix2 r l)) (fun n => k0_pay4 (k0_pay10 (F := Ideal) (logBlk (at1 m) c n)) k0_pay13 (ix2 r l))
    rfl (fun n => add_pred _ _ _ _)).trans (Finset.sum_congr rfl fun b _ => ?_)
  rw [fold_pred_entry]
  refine Finset.sum_congr rfl fun q _ => ?_
  rw [dif_at]
  rfl
theorem tp_tile (c : Dev nD) (r : Fin 8) (l : Fin 128) : tpAt (at1 m) c 15 (ix2 r l) = tile (tpK (argX m c) (argY m c)) r l := by
  refine (accumulated (fun n => tpAt (at1 m) c n (ix2 r l)) (fun n => k0_pay5 (k0_pay10 (F := Ideal) (logBlk (at1 m) c n)) (k0_pay11 (F := Ideal) (labBlk (at1 m) c n)) k0_pay13 (ix2 r l))
    rfl (fun n => add_tp _ _ _ _ _)).trans (Finset.sum_congr rfl fun b _ => ?_)
  rw [fold_tp_entry]
  refine Finset.sum_congr rfl fun q _ => ?_
  rw [dif_at, lab_entry, lab_at]
  rfl

end Tiles

/-! ## A tile's entries together are the sum over all samples -/

theorem move_last {α β γ : Type} [Fintype α] [Fintype β] [Fintype γ] (G : α → β → γ → EReal) :
    ∑ a, ∑ b, ∑ g, G a b g = ∑ g, ∑ a, ∑ b, G a b g := by
  rw [Finset.sum_comm]
  refine (Finset.sum_congr rfl fun b _ => Finset.sum_comm).trans ?_
  rw [Finset.sum_comm]
  exact Finset.sum_congr rfl fun g _ => Finset.sum_comm

theorem tile_total (f : Fin 16777216 → EReal) : ∑ r : Fin 8, ∑ l : Fin 128, tile f r l = ∑ n, f n := by
  rw [Fin.sum_univ_tiles 131072 128 rfl f, Fin.sum_univ_tiles 16 8192 rfl (fun R : Fin 131072 => ∑ l : Fin 128, f ⟨R.val * 128 + l.val, by omega⟩)]
  unfold tile
  rw [move_last]
  refine Finset.sum_congr rfl fun b _ => ?_
  rw [move_last, Fin.sum_univ_tiles 1024 8 rfl (fun R : Fin 8192 => ∑ l : Fin 128, f ⟨(b.val * 8192 + R.val) * 128 + l.val, by omega⟩)]
  refine Finset.sum_congr rfl fun q _ => Finset.sum_congr rfl fun r _ => Finset.sum_congr rfl fun l _ => congrArg f (Fin.ext ?_)
  show (8192 * b.val + (q.val * 8 + r.val)) * 128 + l.val = (b.val * 8192 + (q.val * 8 + r.val)) * 128 + l.val
  omega

/-! ## The combination -/

/-- The weight of the cost term, from the numbers of true positives, false positives, true negatives and false negatives. -/
def weight (tp fp tn fn : EReal) : EReal :=
  if 0 < tp ∧ 0 < tn ∧ 0 < fp ∧ 0 < fn then
    Ideal.ofBits .f32 0xBF000000#32 * Ideal.log (Ideal.sqrt (max (Ideal.div tp (max (tp + fn) 1) * Ideal.div fp (max (fp + tn) 1)) (Ideal.ofBits .f32 0x0DA24260#32)))
  else Ideal.ofBits .f32 0x3F000000#32

/-- The kernel's number from the four totals. -/
def finish (ce lb pr tp : EReal) : EReal :=
  ce * Ideal.ofBits .f32 0x33800000#32
    + weight tp (pr - tp) (Ideal.ofBits .f32 0x4B800000#32 - lb - pr + tp) (lb - tp) * ((lb - tp) * Ideal.ofBits .f32 0x33800000#32)

theorem select_four (p q r s : Prop) [Decidable p] [Decidable q] [Decidable r] [Decidable s] (a b : EReal) :
    Scalar.select (IntOp.andi (IntOp.andi (IntOp.andi (BitVec.ofBool (decide p)) (BitVec.ofBool (decide q))) (BitVec.ofBool (decide r))) (BitVec.ofBool (decide s))) a b
      = if p ∧ q ∧ r ∧ s then a else b := by
  by_cases hp : p <;> by_cases hq : q <;> by_cases hr : r <;> by_cases hs : s <;> simp [hp, hq, hr, hs, Scalar.select, IntOp.andi]

theorem combine_eq (a b c d : FVec Ideal S8x128 .f32) : combine (F := Ideal) a b c d (ix2 0 0)
    = finish (∑ r : Fin 8, ∑ l : Fin 128, a (ix2 r l)) (∑ r : Fin 8, ∑ l : Fin 128, b (ix2 r l)) (∑ r : Fin 8, ∑ l : Fin 128, c (ix2 r l)) (∑ r : Fin 8, ∑ l : Fin 128, d (ix2 r l)) := by
  pointwise [combine, k1_pay1, k1_pay2, k1_pay3, k1_pay4, k1_pay5, k1_pay6, k1_pay7, k1_pay8, k1_pay9, k1_pay10]
  rw [select_four]
  rfl

/-- The kernel's result. -/
theorem kernel_value (m : (ℓ : Loc nD τ sig) → Buf (Elt Ideal) ℓ) (c : Dev nD) : W4 m c main_v6
    = fun _ => finish (∑ n, ceK (argX m c) (argY m c) n) (∑ n, lab (argY m c) n) (∑ n, prK (argX m c) n) (∑ n, tpK (argX m c) (argY m c) n) := by
  rw [W4_out]
  funext j
  rw [← tile_total, ← tile_total, ← tile_total, ← tile_total]
  simp only [← ce_tile, ← lab_tile, ← pred_tile, ← tp_tile]
  refine Eq.trans ?_ (combine_eq _ _ _ _)
  pointwise

end Cert.KernelIdeal.Pf

end
-- ==== Proof.Equation.lean ====
/- The equation between the two results, over the reals: softplus is the cross-entropy of two classes, and three sums give the confusion matrix. -/
module

public import proofs.«01_k».proof.Proof.RefValue
public import proofs.«01_k».proof.Proof.Totals

@[expose] public section

noncomputable section

namespace Cert.Proof

open Idealize.ShloMosaic
open Cert.ReferenceIdeal.Pf (word pick hits coefficient logSoft ofBits_bot asReal)
open Cert.KernelIdeal.Pf (dif lab turned ceK prK tpK weight finish)

/-! ## The constants -/

theorem two_eq : Ideal.ofBits .f32 0x40000000#32 = ((2 : ℝ) : EReal) := by
  simp [Ideal.ofBits, Ideal.ieee, -EReal.coe_mul]; norm_num
theorem count_eq : Ideal.ofBits .f32 0x4B800000#32 = ((16777216 : ℝ) : EReal) := by
  simp [Ideal.ofBits, Ideal.ieee, -EReal.coe_mul]; norm_num
theorem share_eq : Ideal.ofBits .f32 0x33800000#32 = ((1 / 16777216 : ℝ) : EReal) := by
  simp [Ideal.ofBits, Ideal.ieee, -EReal.coe_mul]; norm_num

/-! ## Maxima and sums of real numbers among the extended ones -/

theorem coe_max (x y : ℝ) : ((max x y : ℝ) : EReal) = max (x : EReal) (y : EReal) := EReal.coe_strictMono.monotone.map_max
theorem coe_total {ι : Type} (s : Finset ι) (f : ι → ℝ) : ∑ n ∈ s, (f n : EReal) = ((∑ n ∈ s, f n : ℝ) : EReal) := by
  classical
  induction s using Finset.induction_on with
  | empty => simp
  | insert i s hi ih => rw [Finset.sum_insert hi, Finset.sum_insert hi, ih, EReal.coe_add]

/-! ## One sample -/

/-- The softplus of a number, computed without overflow. -/
def softplus (z : ℝ) : ℝ := max z 0 + Real.log (1 + Real.exp (-|z|))

/-- The negative log-softmax of the entry `x` of the pair `x`, `y` is the softplus of `y - x`. -/
theorem softplus_eq (x y : ℝ) :
    x - max x y - Real.log (Real.exp (x - max x y) + Real.exp (y - max x y)) = -softplus (y - x) := by
  unfold softplus
  rcases le_total x y with h | h
  · rw [max_eq_right h, max_eq_left (sub_nonneg.2 h), abs_of_nonneg (sub_nonneg.2 h), sub_self, Real.exp_zero,
      show x - y = -(y - x) by ring, add_comm (Real.exp _) 1]
    ring
  · rw [max_eq_left h, max_eq_right (sub_nonpos.2 h), abs_of_nonpos (sub_nonpos.2 h), sub_self, Real.exp_zero, neg_neg]
    ring

theorem log_one_add_exp (z : ℝ) : Ideal.log1p (Ideal.exp ((z : ℝ) : EReal)) = ((Real.log (1 + Real.exp z) : ℝ) : EReal) := by
  have h : ¬ (1 + Real.exp z ≤ 0) := not_le.2 (by positivity)
  unfold Ideal.log1p
  rw [Ideal.exp_coe, ← EReal.coe_one, ← EReal.coe_add, Ideal.log_coe, if_neg h]

theorem log_exp_add (u v : ℝ) : Ideal.log ((0 : EReal) + (Ideal.exp (u : EReal) + Ideal.exp (v : EReal))) = ((Real.log (Real.exp u + Real.exp v) : ℝ) : EReal) := by
  have h : ¬ (Real.exp u + Real.exp v ≤ 0) := not_le.2 (by positivity)
  rw [zero_add, Ideal.exp_coe, Ideal.exp_coe, ← EReal.coe_add, Ideal.log_coe, if_neg h]

section Sample
variable (X : FVec Ideal Cert.ReferenceIdeal.S16777216x2 .f32) (Y : IVec Cert.ReferenceIdeal.S16777216 32) (a b : Fin 16777216 → ℝ) (k : Fin 16777216 → Fin 2)
  (ha : ∀ n, X (ix2 n 0) = (a n : EReal)) (hb : ∀ n, X (ix2 n 1) = (b n : EReal)) (hk : ∀ n, Y (ix1 n) = word (k n))

/-- The label and the prediction as real numbers. -/
def num (c : Fin 2) : ℝ := (c.val : ℝ)
/-- The logit of the other class less that of the label's. -/
def gap (a b : ℝ) (c : Fin 2) : ℝ := if c = 0 then b - a else a - b

include ha hb in
theorem dif_real (n : Fin 16777216) : dif X n = ((b n - a n : ℝ) : EReal) := by
  unfold dif
  rw [ha, hb, EReal.coe_sub]

include hk in
theorem lab_real (n : Fin 16777216) : lab Y n = ((num (k n) : ℝ) : EReal) := by
  unfold lab num
  rw [hk, asReal]
  rcases Look.axis_two (k n) with h | h <;> rw [h] <;> simp [word]

include ha hb hk in
theorem turned_real (n : Fin 16777216) : turned X Y n = ((gap (a n) (b n) (k n) : ℝ) : EReal) := by
  unfold turned
  rw [dif_real X a b ha hb, lab_real Y k hk, two_eq, ← EReal.coe_mul, ← EReal.coe_one, ← EReal.coe_sub, ← EReal.coe_mul]
  congr 1
  unfold gap num
  rcases Look.axis_two (k n) with h | h <;> rw [h] <;> simp <;> ring

include ha hb hk in
theorem ce_real (n : Fin 16777216) : ceK X Y n = ((softplus (gap (a n) (b n) (k n)) : ℝ) : EReal) := by
  unfold ceK softplus
  rw [turned_real X Y a b k ha hb hk, Ideal.absf_def]
  generalize gap (a n) (b n) (k n) = z
  have e : (0 : EReal) - max (z : EReal) (-(z : EReal)) = ((-|z| : ℝ) : EReal) := by
    rw [← EReal.coe_neg, ← coe_max, ← EReal.coe_zero, ← EReal.coe_sub]
    congr 1
    rw [zero_sub]; rfl
  rw [e, log_one_add_exp, ← EReal.coe_zero, ← coe_max, ← EReal.coe_add]

include ha hb in
theorem soft_real (n : Fin 16777216) (c : Fin 2) : logSoft X (ix2 n c) = ((-softplus (gap (a n) (b n) c) : ℝ) : EReal) := by
  have hm : max (Ideal.ofBits .f32 0xFF800000#32) (Finset.univ.fold max (Ideal.ofBits .f32 0xFF800000#32) (fun q => X (ix2 n q)))
      = ((max (a n) (b n) : ℝ) : EReal) := by
    rw [show (Finset.univ : Finset (Fin 2)) = {0, 1} from rfl, Finset.fold_insert (by simp), Finset.fold_singleton, ofBits_bot, ha, hb, coe_max]
    simp
  have hc : ∀ q, Cert.ReferenceIdeal.Pf.centred X (ix2 n q) = (((if q = 0 then a n else b n) - max (a n) (b n) : ℝ) : EReal) := by
    intro q
    rw [Cert.ReferenceIdeal.Pf.centred_at, hm, EReal.coe_sub]
    rcases Look.axis_two q with rfl | rfl
    · rw [ha]; rfl
    · rw [hb]; rfl
  rw [Cert.ReferenceIdeal.Pf.logSoft_at, Fin.sum_univ_two, hc, hc, hc, Ideal.ofBits_zero_f32, log_exp_add, ← EReal.coe_sub]
  congr 1
  rcases Look.axis_two c with rfl | rfl
  · exact softplus_eq (a n) (b n)
  · rw [max_comm, add_comm (Real.exp _)]
    exact softplus_eq (b n) (a n)

include ha hb in
theorem pr_real (n : Fin 16777216) : prK X n = ((num (pick (a n) (b n)) : ℝ) : EReal) := by
  unfold prK
  rw [dif_real X a b ha hb, ← EReal.coe_zero]
  simp only [EReal.coe_lt_coe_iff, sub_pos]
  unfold num pick
  split <;> simp

include ha hb hk in
theorem tp_real (n : Fin 16777216) : tpK X Y n = ((num (k n) * num (pick (a n) (b n)) : ℝ) : EReal) := by
  unfold tpK
  rw [dif_real X a b ha hb, lab_real Y k hk, ← EReal.coe_zero]
  simp only [EReal.coe_lt_coe_iff, sub_pos]
  unfold pick
  split <;> simp [num]

end Sample

/-! ## The counts -/

section Counts
variable (k r : Fin 16777216 → Fin 2)

/-- A count as a sum of real numbers. -/
theorem hits_real (y p : Fin 2) : hits k r y p = ((∑ n, (if k n = y ∧ r n = p then 1 else 0) : ℝ) : EReal) := by
  unfold hits
  rw [← coe_total]
  refine Finset.sum_congr rfl fun n _ => ?_
  split <;> simp

theorem hit11 : hits k r 1 1 = ((∑ n, num (k n) * num (r n) : ℝ) : EReal) := by
  rw [hits_real]
  refine congrArg Real.toEReal (Finset.sum_congr rfl fun n _ => ?_)
  rcases Look.axis_two (k n) with h | h <;> rcases Look.axis_two (r n) with g | g <;> rw [h, g] <;> simp [num]
theorem hit01 : hits k r 0 1 = ((∑ n, num (r n) - ∑ n, num (k n) * num (r n) : ℝ) : EReal) := by
  rw [hits_real, ← Finset.sum_sub_distrib]
  refine congrArg Real.toEReal (Finset.sum_congr rfl fun n _ => ?_)
  rcases Look.axis_two (k n) with h | h <;> rcases Look.axis_two (r n) with g | g <;> rw [h, g] <;> simp [num]
theorem hit10 : hits k r 1 0 = ((∑ n, num (k n) - ∑ n, num (k n) * num (r n) : ℝ) : EReal) := by
  rw [hits_real, ← Finset.sum_sub_distrib]
  refine congrArg Real.toEReal (Finset.sum_congr rfl fun n _ => ?_)
  rcases Look.axis_two (k n) with h | h <;> rcases Look.axis_two (r n) with g | g <;> rw [h, g] <;> simp [num]
theorem hit00 : hits k r 0 0 = ((16777216 - ∑ n, num (k n) - ∑ n, num (r n) + ∑ n, num (k n) * num (r n) : ℝ) : EReal) := by
  have all : (16777216 : ℝ) = ∑ _n : Fin 16777216, (1 : ℝ) := by
    rw [Finset.sum_const, Finset.card_univ, Fintype.card_fin, nsmul_eq_mul, mul_one, Nat.cast_ofNat]
  rw [hits_real, all, ← Finset.sum_sub_distrib, ← Finset.sum_sub_distrib, ← Finset.sum_add_distrib]
  refine congrArg Real.toEReal (Finset.sum_congr rfl fun n _ => ?_)
  rcases Look.axis_two (k n) with h | h <;> rcases Look.axis_two (r n) with g | g <;> rw [h, g] <;> simp [num]

end Counts

/-! ## The equation -/

/-- The two results are one, for finite logits and labels that are classes. -/
theorem results_agree (X : FVec Ideal Cert.ReferenceIdeal.S16777216x2 .f32) (Y : IVec Cert.ReferenceIdeal.S16777216 32) (a b : Fin 16777216 → ℝ) (k : Fin 16777216 → Fin 2)
    (ha : ∀ n, X (ix2 n 0) = (a n : EReal)) (hb : ∀ n, X (ix2 n 1) = (b n : EReal)) (hk : ∀ n, Y (ix1 n) = word (k n)) :
    finish (∑ n, ceK X Y n) (∑ n, lab Y n) (∑ n, prK X n) (∑ n, tpK X Y n)
      = -Ideal.div (∑ n, logSoft X (ix2 n (k n))) (Ideal.ofBits .f32 0x4B800000#32)
      + coefficient (hits k (fun n => pick (a n) (b n)) 1 1) (hits k (fun n => pick (a n) (b n)) 0 1) (hits k (fun n => pick (a n) (b n)) 0 0)
          (hits k (fun n => pick (a n) (b n)) 1 0)
        * Ideal.div (hits k (fun n => pick (a n) (b n)) 1 0) (Ideal.ofBits .f32 0x4B800000#32) := by
  have h16 : (16777216 : ℝ) ≠ 0 := by norm_num
  rw [hit11, hit01, hit00, hit10]
  simp only [ce_real X Y a b k ha hb hk, lab_real Y k hk, pr_real X a b ha hb, tp_real X Y a b k ha hb hk, soft_real X a b ha hb, coe_total]
  unfold finish
  rw [share_eq, count_eq, Ideal.div_coe h16, Ideal.div_coe h16]
  simp only [← EReal.coe_sub, ← EReal.coe_add, ← EReal.coe_mul, ← EReal.coe_neg]
  congr 2
  rw [Finset.sum_neg_distrib, neg_mul, neg_neg]

end Cert.Proof

end
-- ==== Proof.Inputs.lean ====
/- What the precondition says: every logit is a real number and every label is a class. -/
module

public import proofs.«01_k».proof.Defs
public import proofs.«01_k».proof.Proof.RefReads

@[expose] public section

noncomputable section

namespace Cert.Proof

open Idealize.ShloMosaic

/-- The side conditions of the precondition. -/
theorem pre_facts : Cert.Pre_logits_finite_labels_binary.Facts := ⟨by decide, by decide⟩

section
variable [h : Cert.Pre_logits_finite_labels_binary.Facts]
open Cert.Pre_logits_finite_labels_binary
variable (X : FVec Ideal S16777216x2 .f32) (Y : IVec S16777216 32)

theorem top_eq : Ideal.ofBits .f32 0x7F800000#32 = ⊤ := by simp [Ideal.ofBits, Ideal.ieee]

/-- A logit whose magnitude is below infinity is a real number. -/
theorem finite_of (hX : (fn X Y).1 = fun _ => 1#1) (n : Fin 16777216) (q : Fin 2) : ∃ x : ℝ, X (ix2 n q) = (x : EReal) := by
  have e : BitVec.ofBool (decide (max (X (ix2 n q)) (-(X (ix2 n q))) < Ideal.ofBits .f32 0x7F800000#32)) = 1#1 := congrFun hX (ix2 n q)
  rw [top_eq] at e
  have hlt : max (X (ix2 n q)) (-(X (ix2 n q))) < (⊤ : EReal) := by
    by_contra hn
    rw [decide_eq_false hn] at e
    exact absurd e (by decide)
  have h1 : X (ix2 n q) ≠ (⊤ : EReal) := fun h => by rw [h] at hlt; simp at hlt
  have h2 : X (ix2 n q) ≠ (⊥ : EReal) := fun h => by rw [h] at hlt; simp at hlt
  exact ⟨EReal.toReal (X (ix2 n q)), (EReal.coe_toReal h1 h2).symm⟩

/-- A label that is 0 or 1 is a class. -/
theorem class_of (hY : (fn X Y).2 = fun _ => 1#1) (n : Fin 16777216) : ∃ k : Fin 2, Y (ix1 n) = Cert.ReferenceIdeal.Pf.word k := by
  have e : IntOp.ori (IntOp.cmpi .eq (Y (ix1 n)) 0#32) (IntOp.cmpi .eq (Y (ix1 n)) 1#32) = 1#1 := congrFun hY (ix1 n)
  by_cases h0 : Y (ix1 n) = 0#32
  · exact ⟨0, h0⟩
  by_cases h1 : Y (ix1 n) = 1#32
  · exact ⟨1, h1⟩
  simp only [IntOp.cmpi, IntOp.ori, beq_eq_false_iff_ne.2 h0, beq_eq_false_iff_ne.2 h1] at e
  exact absurd e (by decide)
end

end Cert.Proof

end
-- ==== Proof.lean ====
/- The claim, assembled from the runs of the three programs and the equation between their results. -/
module

public import proofs.«01_k».proof.Defs
public import proofs.«01_k».proof.Proof.Same
public import proofs.«01_k».proof.Proof.Equation
public import proofs.«01_k».proof.Proof.Inputs

@[expose] public section

noncomputable section

namespace Cert.Proof

open Idealize.ShloMosaic Idealize.SL.Sem

/-- The kernel and the reference end with the same number, when every logit is finite and every label is 0 or 1. -/
theorem same_value : Cert.algebraic_KernelIdeal_ReferenceIdeal_pre_logits_finite_labels_binary
    (hKernelIdeal := Cert.KernelIdeal.Gen.facts) (hReferenceIdeal := Cert.ReferenceIdeal.Gen.facts) (hPre_logits_finite_labels_binary := pre_facts) := by
  intro m g m' g' hpre hagree
  have _ := pre_facts
  refine ⟨fun c => Cert.KernelIdeal.Pf.W4 m c (Proc.devRef .tc Cert.KernelIdeal.main_v6), Cert.KernelIdeal.Pf.run_result m g,
    θ_run_mono (Cert.ReferenceIdeal.Pf.run_line m' g') fun r h c => ⟨?_, (h c _).trans (Cert.ReferenceIdeal.Pf.kept_arg0 _), (h c _).trans (Cert.ReferenceIdeal.Pf.kept_arg1 _)⟩⟩
  refine (h c _).trans ?_
  choose a ha using fun n => finite_of _ _ (hpre c).1 n 0
  choose b hb using fun n => finite_of _ _ (hpre c).1 n 1
  choose k hk using fun n => class_of _ _ (hpre c).2 n
  refine (Cert.ReferenceIdeal.Pf.value _ _ _ (hagree c).1 (hagree c).2 a b k ha hb hk).trans ?_
  refine Eq.trans ?_ (Cert.KernelIdeal.Pf.kernel_value m c).symm
  funext _
  exact (results_agree _ _ a b k ha hb hk).symm

theorem claim : Cert.Claim :=
  ⟨Cert.Kernel.Gen.facts, Cert.KernelIdeal.Gen.facts, Cert.ReferenceIdeal.Gen.facts, pre_facts,
    fun m g _ => frame_compiled m g, fun m g _ => Cert.KernelIdeal.Pf.frame m g, fun m g _ => Cert.KernelIdeal.Pf.frame m g,
    fun m g _ => Cert.ReferenceIdeal.Pf.frame m g, fun m g _ => Cert.ReferenceIdeal.Pf.frame m g, trivial, same_value⟩

end Cert.Proof

end
